-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_rows [hPre_bounded_rows : Cert.Pre_bounded_rows.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_rows.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_rows [hPre_bounded_rows : Cert.Pre_bounded_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_rows.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_bounded_rows [hKernelIdeal : Cert.KernelIdeal.Facts] [hPre_bounded_rows : Cert.Pre_bounded_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_bounded_rows [hReferenceIdeal : Cert.ReferenceIdeal.Facts] [hPre_bounded_rows : Cert.Pre_bounded_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "c_temp" .f32 0x3E93BB63#32 (((1 / 5) * (Real.log 2)⁻¹ : ℝ) : EReal)
  ∧ IdealRules.named_const.Statement Cert.KernelIdeal.κ "fifth" .f32 0x3E4CCCCD#32 ((1 / 5 : ℝ) : EReal)

def algebraic_KernelIdeal_ReferenceIdeal_pre_bounded_rows [hKernelIdeal : Cert.KernelIdeal.Facts] [hReferenceIdeal : Cert.ReferenceIdeal.Facts] [hPre_bounded_rows : Cert.Pre_bounded_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_bounded_rows : Cert.Pre_bounded_rows.Facts),
    quiescent_Kernel (hKernel := hKernel)
    ∧ quiescent_KernelIdeal (hKernelIdeal := hKernelIdeal)
    ∧ quiescent_KernelIdeal_pre_bounded_rows (hKernelIdeal := hKernelIdeal) (hPre_bounded_rows := hPre_bounded_rows)
    ∧ quiescent_ReferenceIdeal (hReferenceIdeal := hReferenceIdeal)
    ∧ quiescent_ReferenceIdeal_pre_bounded_rows (hReferenceIdeal := hReferenceIdeal) (hPre_bounded_rows := hPre_bounded_rows)
    ∧ preserves_Kernel_KernelIdeal
    ∧ algebraic_KernelIdeal_ReferenceIdeal_pre_bounded_rows (hKernelIdeal := hKernelIdeal) (hReferenceIdeal := hReferenceIdeal) (hPre_bounded_rows := hPre_bounded_rows)
-- ==== Pre_bounded_rows.lean ====
abbrev S128x100000 : Shape := ⟨2, ![128, 100000]⟩
abbrev S_ : Shape := ⟨0, ![]⟩
abbrev S128 : Shape := ⟨1, ![128]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel
  reducesTo_S128x100000_S128_d1 : S128x100000.ReducesTo [1] S128
  reducesTo_S128_S_d0 : S128.ReducesTo [0] S_

variable [Facts]

def fn {F : FTy → Type} [FloatOps F] (main_arg0 : FVec F S128x100000 .f32) : IVec S_ 1 :=
  let main_cst : FVec F S_ .f32 := constant S_ .f32 0x7F800000#32
  let main_v0 : FVec F S128x100000 .f32 := broadcastInDim S128x100000 ![] bcast_S_S128x100000 main_cst
  let main_v1 : IVec S128x100000 1 := cmpf .olt main_arg0 main_v0
  let main_c : IVec S_ 1 := constantI S_ 1 1#1
  let main_v2 : IVec S_ 1 := (fun x v => Host.reduce IntOp.andi x v reducesTo_S128x100000_S_d0_1 h_S_) main_v1 main_c
  let main_cst_0 : FVec F S_ .f32 := constant S_ .f32 0xFF800000#32
  let main_v3 : FVec F S128x100000 .f32 := broadcastInDim S128x100000 ![] bcast_S_S128x100000 main_cst_0
  let main_v4 : IVec S128x100000 1 := cmpf .ogt main_arg0 main_v3
  let main_c_1 : IVec S_ 1 := constantI S_ 1 0#1
  let main_v5 : IVec S128 1 := (fun x v => Host.reduce IntOp.ori x v reducesTo_S128x100000_S128_d1 h_S_) main_v4 main_c_1
  let main_c_2 : IVec S_ 1 := constantI S_ 1 1#1
  let main_v6 : IVec S_ 1 := (fun x v => Host.reduce IntOp.andi x v reducesTo_S128_S_d0 h_S_) main_v5 main_c_2
  let main_v7 : IVec S_ 1 := andi main_v2 main_v6
  main_v7
-- ==== Kernel.lean ====
abbrev S128x100000 : Shape := ⟨2, ![128, 100000]⟩
abbrev S8x100000 : Shape := ⟨2, ![8, 100000]⟩
abbrev S8x2048 : Shape := ⟨2, ![8, 2048]⟩
abbrev S8 : Shape := ⟨1, ![8]⟩
abbrev S8x1 : Shape := ⟨2, ![8, 1]⟩
abbrev S8x1696 : Shape := ⟨2, ![8, 1696]⟩

abbrev nBuf : Space → Nat
  | .hbm => 2
  | .vmem => 4
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v11 : BitVec 32 := Scalar.addi c0_i32 c4_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c24576_i32 : BitVec 32 := 24576#32
  let v214 : BitVec 32 := Scalar.muli arg3 c24576_i32
  v214
def k0_off1 (k0_t1 : Fin k0_t1_loop.trips) (c0_i32_55 : BitVec 32) : Fin 2 → Nat :=
  let c0_112 : Index := 0#32
  let c0_i32 : BitVec 32 := 0#32
  let c1_i32 : BitVec 32 := 1#32
  let arg3 : BitVec 32 := Scf.iv c0_i32 c1_i32 k0_t1
  let c24576_i32 : BitVec 32 := 24576#32
  let v214 : BitVec 32 := Scalar.muli arg3 c24576_i32
  let v215 : BitVec 32 := v214
  let v216 : BitVec 32 := Scalar.addi v215 c0_i32_55
  let v393 : Index := Scalar.indexCast v216
  ![0, v393.toNat]
@[reducible] def k0_t2_loop : Scf.Loop 32 :=
  let c0_i32_47 : BitVec 32 := 0#32
  let c4_i32_48 : BitVec 32 := 4#32
  let v208 : BitVec 32 := Scalar.addi c0_i32_47 c4_i32_48
  let c1_i32_49 : BitVec 32 := 1#32
  ⟨c0_i32_47, v208, c1_i32_49⟩
def k0_mult2 (k0_t2 : Fin k0_t2_loop.trips) : BitVec 32 :=
  let c0_i32_47 : BitVec 32 := 0#32
  let c1_i32_49 : BitVec 32 := 1#32
  let arg3 : BitVec 32 := Scf.iv c0_i32_47 c1_i32_49 k0_t2
  let c24576_i32 : BitVec 32 := 24576#32
  let v214 : BitVec 32 := Scalar.muli arg3 c24576_i32
  v214
def k0_off2 (k0_t2 : Fin k0_t2_loop.trips) (c0_i32_55 : BitVec 32) : Fin 2 → Nat :=
  let c0_56 : Index := 0#32
  let c0_i32_47 : BitVec 32 := 0#32
  let c1_i32_49 : BitVec 32 := 1#32
  let arg3 : BitVec 32 := Scf.iv c0_i32_47 c1_i32_49 k0_t2
  let c24576_i32 : BitVec 32 := 24576#32
  let v214 : BitVec 32 := Scalar.muli arg3 c24576_i32
  let v215 : BitVec 32 := v214
  let v216 : BitVec 32 := Scalar.addi v215 c0_i32_55
  let v217 : Index := Scalar.indexCast v216
  ![0, v217.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "c_temp" => some (((1 / 5) * (Real.log 2)⁻¹ : ℝ) : EReal)
  | "fifth" => some ((1 / 5 : ℝ) : EReal)
  | "inv_ln2" => some (((Real.log 2)⁻¹ : ℝ) : EReal)
  | "ln2" => some ((Real.log 2 : ℝ) : EReal)
  | _ => none
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩

abbrev nBuf : Space → Nat
  | .hbm => 303
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S128x100000, .i64⟩
  | 22 => ⟨S128x100000, .i64⟩
  | 23 => ⟨S_, .i64⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S128x100000, .i64⟩
  | 30 => ⟨S_, .i64⟩
  | 31 => ⟨S128x100000, .i64⟩
  | 32 => ⟨S128x100000, .i64⟩
  | 33 => ⟨S128x100000, .i32⟩
  | 34 => ⟨S128x100000, .i32⟩
  | 35 => ⟨S_, .i32⟩
  | 36 => ⟨S_, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .f32⟩
  | 9 => ⟨S_, .f32⟩
  | 10 => ⟨S128x100000, .f32⟩
  | 11 => ⟨S128x100000, .f32⟩
  | 12 => ⟨S1x1, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S_, .f32⟩
  | 20 => ⟨S128x100000, .f32⟩
  | 21 => ⟨S128x100000, .f32⟩
  | 22 => ⟨S128x100000, .f32⟩
  | 23 => ⟨S128x100000, .f32⟩
  | 24 => ⟨S_, .f32⟩
  | 25 => ⟨S128x100000, .f32⟩
  | 26 => ⟨S128x100000, .f32⟩
  | 27 => ⟨S128x100000, .f32⟩
  | 28 => ⟨S128x100000, .f32⟩
  | 29 => ⟨S128x100000, .f32⟩
  | 30 => ⟨S_, .f32⟩
  | 31 => ⟨S128x100000, .f32⟩
  | 32 => ⟨S128x100000, .f32⟩
  | 33 => ⟨S_, .f32⟩
  | 34 => ⟨S128, .f32⟩
  | 35 => ⟨S_, .f32⟩
  | 36 => ⟨S128, .f32⟩
  | 37 => ⟨S128, .f32⟩
  | 38 => ⟨S128x1, .f32⟩
  | 39 => ⟨S128x100000, .f32⟩
  | 40 => ⟨S128x100000, .f32⟩
  | 41 => ⟨S128x100000, .f32⟩
  | 42 => ⟨S_, .f32⟩
  | 43 => ⟨S128, .f32⟩
  | 44 => ⟨S128x1, .f32⟩
  | 45 => ⟨S128x100000, .f32⟩
  | 46 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_v11 : Ref sig .tc := ⟨.hbm, 279, rfl⟩
abbrev main_cst_4 : Ref sig .tc := ⟨.hbm, 280, rfl⟩
abbrev main_v12 : Ref sig .tc := ⟨.hbm, 281, rfl⟩
abbrev main_v13 : Ref sig .tc := ⟨.hbm, 282, rfl⟩
abbrev main_v14 : Ref sig .tc := ⟨.hbm, 283, rfl⟩
abbrev main_v15 : Ref sig .tc := ⟨.hbm, 284, rfl⟩
abbrev main_v16 : Ref sig .tc := ⟨.hbm, 285, rfl⟩
abbrev main_cst_5 : Ref sig .tc := ⟨.hbm, 286, rfl⟩
abbrev main_v17 : Ref sig .tc := ⟨.hbm, 287, rfl⟩
abbrev main_v18 : Ref sig .tc := ⟨.hbm, 288, rfl⟩
abbrev main_cst_6 : Ref sig .tc := ⟨.hbm, 289, rfl⟩
abbrev main_v19 : Ref sig .tc := ⟨.hbm, 290, rfl⟩
abbrev main_cst_7 : Ref sig .tc := ⟨.hbm, 291, rfl⟩
abbrev main_v20 : Ref sig .tc := ⟨.hbm, 292, rfl⟩
abbrev main_v21 : Ref sig .tc := ⟨.hbm, 293, rfl⟩
abbrev main_v22 : Ref sig .tc := ⟨.hbm, 294, rfl⟩
abbrev main_v23 : Ref sig .tc := ⟨.hbm, 295, rfl⟩
abbrev main_v24 : Ref sig .tc := ⟨.hbm, 296, rfl⟩
abbrev main_v25 : Ref sig .tc := ⟨.hbm, 297, rfl⟩
abbrev main_cst_8 : Ref sig .tc := ⟨.hbm, 298, rfl⟩
abbrev main_v26 : Ref sig .tc := ⟨.hbm, 299, rfl⟩
abbrev main_v27 : Ref sig .tc := ⟨.hbm, 300, rfl⟩
abbrev main_v28 : Ref sig .tc := ⟨.hbm, 301, rfl⟩
abbrev main_v29 : Ref sig .tc := ⟨.hbm, 302, rfl⟩

abbrev nD : Nat := 1
abbrev τ : Topo := Topo.v7x

variable {F : FTy → Type} [FloatOps F]
-- ==== Proof.KernelFrame.lean ====
/-
  The frame of the kernel as written, on float words: it runs, its argument stays, every counter ends at zero. Nothing is
  said here of what it leaves in the result.
-/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.Kernel.Words

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body, on whole buffers: it runs, leaves the input's buffer as it was and the output's at something. -/
theorem body_runs (c : Dev nD) (i : grid0.Coords) (arg1 : Memref sig .tc .vmem S8x100000 .f32) (harg1 : arg1.IsWhole)
    (arg2 : Memref sig .tc .vmem S8x100000 .f32) (harg2 : arg2.IsWhole) (x0 : Vec F S8x100000 .f32) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0 ∗ (∃ d, owns (c : Thread nD τ) arg2 fullShare d)) -∗ K ⟨⟩))
      ⊢ wp frame (wpE (defs₀ (F := F)) Variants.none c none) E (cc0__gumbel_softmax_block i arg1 harg1 arg2 harg2) K := by
  simp only [cc0__gumbel_softmax_block_eq_skeleton]
  unfold cc0__gumbel_softmax_block_skel
  simp only [k0_part54_eq_skeleton, k0_part55_eq_skeleton, k0_part56_eq_skeleton, k0_part57_eq_skeleton, k0_part58_eq_skeleton]
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  iexists _, _
  isplitr; swap; · iexact H1
  ipureintro
  rfl

/-- The window of which nothing is said: the output's. -/
def unsaid : Fin 2 → Bool := fun w => w.val == 1

/-- The arrays as launched; the input's buffer at its block after every point. -/
def held (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
  Φ _ := Pipeline.ΦA spec0 c
  q _ := fullShare
  owed _ := 0

theorem held_A (c : Dev nD) (w : Fin cfg0.W) : (held m 0 c).A w = V m c (Pipeline.arrRef spec0 w) := by dsimp only [held]

theorem held_after (c : Dev nD) (t : Fin cfg0.N) : (held m 0 c).after 0 t = iblk m c 0 t := by dsimp only [held]

/-- The input's buffer holds its block before every point too. -/
theorem held_before (c : Dev nD) (t : Fin cfg0.N) (d) : (held m 0 c).before 0 t d = iblk m c 0 t :=
  before0_0_of m (held m 0 c) (held_A m c 0) (held_after m c) t d

/-- The buffers at a point. -/
abbrev inBuf (t : Fin cfg0.N) : Memref sig .tc .vmem S8x100000 .f32 := win0_0.stage (cfg0.slots t 0)
abbrev outBuf (t : Fin cfg0.N) : Memref sig .tc .vmem S8x100000 .f32 := win0_1.stage (cfg0.slots t 1)

/-- What the body is handed at a point, -/
def given (c : Dev nD) (t : Fin cfg0.N) : sProp 𝕄 :=
  iprop((held m 0 c).Φ t.castSucc ∗ (held m 0 c).owesAt () t.castSucc
    ∗ (∃ d, owns (c : Thread nD τ) (inBuf t) fullShare ((held m 0 c).before 0 t d))
    ∗ (∃ d, owns (c : Thread nD τ) (outBuf t) fullShare d))

/-- and what it hands back. -/
def returned (c : Dev nD) (t : Fin cfg0.N) : sProp 𝕄 :=
  iprop((held m 0 c).Φ t.succ ∗ (held m 0 c).owesAt () t.succ
    ∗ owns (c : Thread nD τ) (inBuf t) fullShare ((held m 0 c).after 0 t)
    ∗ (∃ d, owns (c : Thread nD τ) (outBuf t) fullShare d))

/-- The body at a point. -/
theorem body_at (c : Dev nD) (t : Fin cfg0.N) :
    given m c t ⊢ wp frame (wpE (defs₀ (F := F)) Variants.none c none) Set.univ (bodyAt0 t) (fun _ => returned m c t) := by
  unfold given returned bodyAt0
  simp only [held_before]
  rw [show (held m 0 c).Φ t.succ = (held m 0 c).Φ t.castSucc from rfl,
    show (held m 0 c).owesAt () t.succ = (held m 0 c).owesAt () t.castSucc from rfl, held_after]
  iintro ⟨HΦ, Ho, ⟨%d0, H0⟩, ⟨%d1, H1⟩⟩
  iapply (body_runs c (grid0.coords t) _ _ _ _ (iblk m c 0 t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body at a point is the table's. -/
theorem table_row (t : Fin cfg0.N) : defs₀ (F := F) .tc cfg0.body (cfg0.bodyArgs t (cfg0.slots t)) = bodyAt0 t := by
  unfold defs₀
  rw [Defs.onTc_tc]

theorem obligation (c : Dev nD) :
    BodyObligation (held (F := F) m 0 c) (defs₀ (F := F)) Variants.none () Set.univ unsaid := fun t => by
  rw [bigSep_W0, bigSep_W0, table_row]
  exact triple_restated (body_at m c t) rfl .rfl fun _ => .rfl

set_option backward.isDefEq.respectTransparency.types false in
/-- The launch. -/
theorem launch : θ_run defs (onTc (τ := τ) (main (F := F))) (s₀ m ρ)
    (fun r => (Pipeline.RDat.FramePost (cfgs 0) (fun c => (held m 0 c).toRForget unsaid) (V m)) r ∧ r.2.sem = fun _ => 0) :=
  Pipeline.θ_run_frame_forget (Q' := _) cfgs (held m) (0 : Fin 1) launch0 defs₀ Variants.none unsaid m ρ main
    (hbody := fun c => (obligation m c).loose) (hshare := fun c => (held m 0 c).share_full fun _ => rfl)
    (howed := fun _ _ => rfl) (V := V m) (hmain := hmain m Variants.none) (hA := held_A m) (hΦ := fun _ _ => rfl)

/-- The frame. -/
theorem frame : θ_run defs (onTc (τ := τ) (main (F := F))) ⟨m, fun _ => 0, ρ⟩ fun r =>
    (∀ c : Dev nD, r.2.mem ((c.tc : Thread nD τ).loc main_arg0) = m ((c.tc : Thread nD τ).loc main_arg0)) ∧ r.2.sem = fun _ => 0 :=
  (θ_run defs _ _).mono (fun _ h => ⟨fun c => (Pipeline.RDat.FramePost.arr_in h.1 c 0 rfl).trans ((held_A m c 0).trans (V_main_arg0 m c)), h.2⟩)
    (launch m ρ)

end Cert.Kernel.Words

end
-- ==== Proof.Lanes.lean ====
/-
  What one block of lanes computes: the cipher's bits from the counter words, the exponential from the bits and the
  logits, and that both act lane by lane.
-/
module

public import proofs.«01_k».proof.KernelIdeal
public import proofs.«01_k».proof.Proof.Gen.KernelIdeal

@[expose] public section

noncomputable section

namespace Cert.Lanes

open Idealize.ShloMosaic Cert.KernelIdeal

variable {F : FTy → Type} [FloatOps F] [Named F] {S : Shape}

/-- The words rotated left by `l` (right by `r`). -/
def turn (l r : BitVec 32) (x : IVec S 32) : IVec S 32 :=
  xori (shli x (broadcast S l)) (shrui x (broadcast S r))

/-- One round of the cipher. -/
def round (l r : BitVec 32) (p : IVec S 32 × IVec S 32) : IVec S 32 × IVec S 32 :=
  (addi p.1 p.2, xori (turn l r p.2) (addi p.1 p.2))

/-- Adding a key word to each of the two words. -/
def key (a b : BitVec 32) (p : IVec S 32 × IVec S 32) : IVec S 32 × IVec S 32 :=
  (addi p.1 (broadcast S a), addi p.2 (broadcast S b))

/-- Adding a key word to the second word alone. -/
def keyR (b : BitVec 32) (p : IVec S 32 × IVec S 32) : IVec S 32 × IVec S 32 :=
  (p.1, addi p.2 (broadcast S b))

/-- The first round, whose first word enters as zero. -/
def first (x : IVec S 32) : IVec S 32 × IVec S 32 := (x, xori (turn 13#32 19#32 x) x)

/-- The last three rounds of a group with the first set of rotations. -/
def tripleA (p : IVec S 32 × IVec S 32) : IVec S 32 × IVec S 32 :=
  round 6#32 26#32 (round 26#32 6#32 (round 15#32 17#32 p))

/-- Four rounds with the first set of rotations. -/
def quadA (p : IVec S 32 × IVec S 32) : IVec S 32 × IVec S 32 := tripleA (round 13#32 19#32 p)

/-- Four rounds with the second set of rotations. -/
def quadB (p : IVec S 32 × IVec S 32) : IVec S 32 × IVec S 32 :=
  round 24#32 8#32 (round 16#32 16#32 (round 29#32 3#32 (round 17#32 15#32 p)))

/-- The cipher's two words from the counter words. -/
def cipher (x : IVec S 32) : IVec S 32 × IVec S 32 :=
  key 466689008#32 5#32 (quadA (key 42#32 466689012#32 (quadB (keyR 45#32 (quadA (key 466689008#32 2#32 (quadB
    (key 42#32 466689009#32 (tripleA (first x))))))))))

/-- The uniform number and the small offset, from the two words. -/
def unit (p : IVec S 32 × IVec S 32) : FVec F S .f32 :=
  addf (subf (bitcastToFloat .f32 (ori (shrui (xori p.1 p.2) (broadcast S 9#32)) (broadcast S 0x3F800000#32)))
    (broadcast S (Scalar.ofBits .f32 0x3F800000#32))) (broadcast S (Scalar.ofBits .f32 0x322BCC77#32))

/-- The exponential of the perturbed logit over the temperature. -/
def expo (v l : FVec F S .f32) : FVec F S .f32 :=
  exp2 (subf (mulf l (broadcast S (Named.named κ "c_temp" 0x3E93BB63#32)))
    (mulf (mulf (log (subf (broadcast S (Scalar.ofBits .f32 0x322BCC77#32))
      (mulf (mulf (log v) (broadcast S (Named.named κ "inv_ln2" 0x3FB8AA3B#32)))
        (broadcast S (Named.named κ "ln2" 0x3F317218#32))))) (broadcast S (Named.named κ "inv_ln2" 0x3FB8AA3B#32)))
      (broadcast S (Named.named κ "fifth" 0x3E4CCCCD#32))))

/-- The exponentials of one block of lanes from its counter words and logits. -/
def block (x : IVec S 32) (l : FVec F S .f32) : FVec F S .f32 := expo (unit (cipher x)) l

/-! ## Lane by lane -/

variable {S' : Shape}

/-- Lane `j` of a pair of word vectors, at every lane of another shape. -/
def pick (j : S.Idx) (p : IVec S 32 × IVec S 32) : IVec S' 32 × IVec S' 32 := (fun _ => p.1 j, fun _ => p.2 j)

theorem round_pick (l r : BitVec 32) (j : S.Idx) (p : IVec S 32 × IVec S 32) :
    round l r (pick (S' := S') j p) = pick j (round l r p) := rfl

theorem key_pick (a b : BitVec 32) (j : S.Idx) (p : IVec S 32 × IVec S 32) :
    key a b (pick (S' := S') j p) = pick j (key a b p) := rfl

theorem keyR_pick (b : BitVec 32) (j : S.Idx) (p : IVec S 32 × IVec S 32) :
    keyR b (pick (S' := S') j p) = pick j (keyR b p) := rfl

theorem first_pick (j : S.Idx) (x : IVec S 32) :
    first (fun _ : S'.Idx => x j) = pick j (first x) := rfl

/-- The cipher acts lane by lane. -/
theorem cipher_pick (j : S.Idx) (x : IVec S 32) : cipher (fun _ : S'.Idx => x j) = pick j (cipher x) := by
  unfold cipher quadA quadB tripleA
  simp only [first_pick, round_pick, key_pick, keyR_pick]

theorem unit_pick (j : S.Idx) (p : IVec S 32 × IVec S 32) (j' : S'.Idx) :
    unit (F := F) (pick (S' := S') j p) j' = unit p j := rfl

theorem expo_pick (v l : FVec F S .f32) (j : S.Idx) (v' l' : FVec F S' .f32) (j' : S'.Idx) (hv : v' j' = v j) (hl : l' j' = l j) :
    expo v' l' j' = expo v l j := by
  simp only [expo, exp2, subf, mulf, log, broadcast, hv, hl]

/-- One lane's exponential from its counter word and its logit. -/
def lane (w : BitVec 32) (l : F .f32) : F .f32 := block (S := ⟨0, ![]⟩) (fun _ => w) (fun _ => l) (fun a => a.elim0)

/-- A block's exponentials are its lanes'. -/
theorem block_apply (x : IVec S 32) (l : FVec F S .f32) (j : S.Idx) : block x l j = lane (x j) (l j) := by
  unfold lane block
  symm
  refine expo_pick _ _ j _ _ _ ?_ rfl
  rw [cipher_pick (S' := ⟨0, ![]⟩) j x, unit_pick]

end Cert.Lanes

end
-- ==== Proof.Trips.lean ====
/-
  What one trip of each loop stores and carries, chunk by chunk.
-/
module

public import proofs.«01_k».proof.Proof.Gen.KernelIdeal
public import proofs.«01_k».proof.Proof.Gen.KernelIdeal.Loops
public import proofs.«01_k».proof.Proof.Lanes
public import Idealize.ShloMosaic.Lib.Pointwise.TacticCore

@[expose] public section
noncomputable section
namespace Cert.KernelIdeal.Val
open Idealize.ShloMosaic Idealize.ShloMosaic.TcCoe Idealize.SL.Sem Cert.KernelIdeal Cert.KernelIdeal.Gen
variable {F : FTy → Type} [FloatOps F] [Named F]

/-- The rectangle of chunk `r` of trip `k`. -/
abbrev rect1 (k : Fin k0_t1_loop.trips) (r : Fin 12) : Rect S8x100000 :=
  Rect.unit (s := S8x100000) (k0_off1 k (BitVec.ofNat 32 (2048 * r.val))) S8x2048.size (k0_off1_inb k r)

/-- The counter words of chunk `r` of trip `k`. -/
def words1 (i : grid0.Coords) (k : Fin k0_t1_loop.trips) (r : Fin 12) : IVec S8x2048 32 :=
  addi (k0_pay499 i) (broadcast S8x2048 (Scalar.addi (Scalar.muli (Scf.iv 0#32 1#32 k) 24576#32) (BitVec.ofNat 32 (2048 * r.val))))

/-- The exponentials of chunk `r` of trip `k`. -/
def chunk1 (i : grid0.Coords) (arg1 : Memref sig .tc .vmem S8x100000 .f32) (X : BufTy.Contents (Elt F) arg1.view.ty)
    (k : Fin k0_t1_loop.trips) (r : Fin 12) : FVec F S8x2048 .f32 :=
  Lanes.block (words1 i k r) (View.readAt (Elt F) arg1.view (rect1 k r).toLoadRect X)

/-- What one trip of the first loop stores. -/
theorem tripL_eq (𝒱 : Variants) (c : Dev nD) (bd : Option 𝒱.V) (i : grid0.Coords) (arg1 : Memref sig .tc .vmem S8x100000 .f32) (harg1 : arg1.IsWhole) (arg2 : Memref sig .tc .vmem S8x100000 .f32) (harg2 : arg2.IsWhole) (X : BufTy.Contents (Elt F) arg1.view.ty) (k : Fin k0_t1_loop.trips) (acc : FVec F S8x2048 .f32) :
   (tripL_k0_t1 (F := F) 𝒱 c bd i arg1 harg1 arg2 harg2 X k acc) =
     [11, 10, 9, 8, 7, 6, 5, 4, 3, 2, 1, 0].map fun r : Fin 12 => ⟨rect1 k r, chunk1 i arg1 X k r⟩ := by
  unfold tripL_k0_t1 trip_k0_t1
  dsimp only
  sl_unfold_words
  unfold_payloads
  dsimp only [List.map, words1, chunk1, Lanes.block, Lanes.expo, Lanes.unit, Lanes.cipher, Lanes.key, Lanes.keyR, Lanes.quadA, Lanes.quadB, Lanes.first, Lanes.tripleA, Lanes.round, Lanes.turn]
  rfl

/-- What one trip of the first loop carries on. -/
theorem tripR_eq (𝒱 : Variants) (c : Dev nD) (bd : Option 𝒱.V) (i : grid0.Coords) (arg1 : Memref sig .tc .vmem S8x100000 .f32) (harg1 : arg1.IsWhole) (arg2 : Memref sig .tc .vmem S8x100000 .f32) (harg2 : arg2.IsWhole) (X : BufTy.Contents (Elt F) arg1.view.ty) (k : Fin k0_t1_loop.trips) (acc : FVec F S8x2048 .f32) :
   (tripR_k0_t1 (F := F) 𝒱 c bd i arg1 harg1 arg2 harg2 X k acc) =
     ([0, 1, 2, 3, 4, 5, 6, 7, 8, 9, 10, 11] : List (Fin 12)).foldl (fun a r => addf a (chunk1 i arg1 X k r)) acc := by
  unfold tripR_k0_t1 trip_k0_t1
  dsimp only
  sl_unfold_words
  unfold_payloads
  dsimp only [List.foldl, words1, chunk1, Lanes.block, Lanes.expo, Lanes.unit, Lanes.cipher, Lanes.key, Lanes.keyR, Lanes.quadA, Lanes.quadB, Lanes.first, Lanes.tripleA, Lanes.round, Lanes.turn]
  rfl

/-- The rectangle of chunk `r` of trip `k` of the second loop. -/
abbrev rect2 (k : Fin k0_t2_loop.trips) (r : Fin 12) : Rect S8x100000 :=
  Rect.unit (s := S8x100000) (k0_off2 k (BitVec.ofNat 32 (2048 * r.val))) S8x2048.size (k0_off2_inb k r)

/-- Chunk `r` of trip `k` of the second loop: what it finds there times the row's factor. -/
def chunk2 (arg2 : Memref sig .tc .vmem S8x100000 .f32) (R : FVec F S8x1 .f32) (Y : BufTy.Contents (Elt F) arg2.view.ty)
    (k : Fin k0_t2_loop.trips) (r : Fin 12) : FVec F S8x2048 .f32 :=
  mulf (shapeCast S8x2048 (View.readAt (Elt F) arg2.view (rect2 k r).toLoadRect Y) Facts₀.shapeCasts_S8x2048_S8x2048)
    (broadcastTo S8x2048 R Facts₀.broadcasts_S8x1_S8x2048)

/-- What one trip of the second loop stores. -/
theorem trip2_eq (𝒱 : Variants) (c : Dev nD) (bd : Option 𝒱.V) (i : grid0.Coords) (arg1 : Memref sig .tc .vmem S8x100000 .f32) (harg1 : arg1.IsWhole) (arg2 : Memref sig .tc .vmem S8x100000 .f32) (harg2 : arg2.IsWhole) v14 v177 cc v192 k f :
    tripL_k0_t2 (F := F) 𝒱 c bd i arg1 harg1 arg2 harg2 v14 v177 cc v192 k f =
      [11, 10, 9, 8, 7, 6, 5, 4, 3, 2, 1, 0].map fun r : Fin 12 => ⟨rect2 k r, chunk2 arg2 (k0_pay539 v14 v177 cc v192) f k r⟩ := by
  unfold tripL_k0_t2 trip_k0_t2
  dsimp only
  sl_unfold_words
  unfold k0_pay540 k0_pay541
  dsimp only [List.map, chunk2]
  rfl

end Cert.KernelIdeal.Val

end
-- ==== Proof.Cover.lean ====
/-
  What a buffer of eight rows and 100000 columns reads after a run of stores, each over 2048 columns of all eight rows.
-/
module

public import proofs.«01_k».proof.Proof.Gen.KernelIdeal
public import Idealize.ShloMosaic.Lib.WritesUnit

@[expose] public section

noncomputable section

namespace Cert.Strip

open Idealize.ShloMosaic Idealize.ShloMosaic.View Cert.KernelIdeal

variable {Val : EltTy → Type} (v : View sig .tc .vmem S8x100000 .f32) (f : v.ty.Contents Val)

/-- A store over the columns from `o` on, `W` of them, of the values that `T` has there: inside it the buffer reads `T`,
    outside what it held before. -/
theorem read_store {off size : Fin 2 → ℕ} {o W : ℕ} (inb : ∀ a, off a + size a ≤ S8x100000.size a)
    (w : (Rect.unit (s := S8x100000) off size inb).shape.Idx → Val .f32) (L : List (Piece Val S8x100000 .f32))
    (T : S8x100000.Idx → Val .f32) (hoff : off = ![0, o]) (hsize : size = ![8, W])
    (hw : ∀ x, w x = T ((Rect.unit (s := S8x100000) off size inb).emb x)) (y : S8x100000.Idx) :
    v.read Val (v.writes Val f (⟨Rect.unit (s := S8x100000) off size inb, w⟩ :: L)) y
      = if o ≤ (y 1).val ∧ (y 1).val < o + W then T y else v.read Val (v.writes Val f L) y := by
  subst hoff hsize
  by_cases h : o ≤ (y 1).val ∧ (y 1).val < o + W
  · rw [if_pos h]
    have hy : y ∈ (Rect.unit (s := S8x100000) ![0, o] ![8, W] inb).set := by
      rw [Rect.mem_set_unit]
      refine Fin.forall_fin_two.mpr ⟨⟨Nat.zero_le _, ?_⟩, h⟩
      have := (y 0).isLt
      show (y 0).val < 0 + 8
      change (y 0).val < 8 at this
      omega
    obtain ⟨x, rfl⟩ := (Rect.unit (s := S8x100000) ![0, o] ![8, W] inb).exists_idx_of_mem hy
    exact (View.read_writes_cons_emb v f _ w L x).trans (hw x)
  · rw [if_neg h]
    refine View.read_writes_cons_unit_of_not_mem v f inb w L y rfl 1 ?_
    show (y 1).val < o ∨ o + W ≤ (y 1).val
    omega

/-- Stores over strips of 2048 columns, strip `r` from column `b + 2048·r` on, for the `r` of a list: a column of one of
    the strips reads `T`, any other what was there before. -/
theorem read_strips {off : Fin 12 → Fin 2 → ℕ} {b : ℕ} (inb : ∀ r a, off r a + (![8, 2048] : Fin 2 → ℕ) a ≤ S8x100000.size a)
    (hoff : ∀ r, off r = ![0, b + 2048 * r.val])
    (w : (r : Fin 12) → (Rect.unit (s := S8x100000) (off r) ![8, 2048] (inb r)).shape.Idx → Val .f32)
    (M : List (Piece Val S8x100000 .f32)) (T : S8x100000.Idx → Val .f32)
    (hw : ∀ r x, w r x = T ((Rect.unit (s := S8x100000) (off r) ![8, 2048] (inb r)).emb x)) (y : S8x100000.Idx) :
    ∀ l : List (Fin 12), v.read Val (v.writes Val f
        ((l.map fun r => (⟨Rect.unit (s := S8x100000) (off r) ![8, 2048] (inb r), w r⟩ : Piece Val S8x100000 .f32)) ++ M)) y
      = if ∃ r ∈ l, b + 2048 * r.val ≤ (y 1).val ∧ (y 1).val < b + 2048 * r.val + 2048 then T y
        else v.read Val (v.writes Val f M) y
  | [] => by simp
  | r :: l => by
    rw [List.map_cons, List.cons_append, read_store v f (inb r) (w r) _ T (hoff r) rfl (hw r) y, read_strips inb hoff w M T hw y l]
    by_cases h : b + 2048 * r.val ≤ (y 1).val ∧ (y 1).val < b + 2048 * r.val + 2048
    · rw [if_pos h, if_pos ⟨r, List.mem_cons_self, h⟩]
    · rw [if_neg h]
      by_cases h' : ∃ r ∈ l, b + 2048 * r.val ≤ (y 1).val ∧ (y 1).val < b + 2048 * r.val + 2048
      · rw [if_pos h', if_pos]
        obtain ⟨q, hq, hh⟩ := h'
        exact ⟨q, List.mem_cons_of_mem _ hq, hh⟩
      · rw [if_neg h', if_neg]
        rintro ⟨q, hq, hh⟩
        rcases List.mem_cons.mp hq with rfl | hq
        · exact h hh
        · exact h' ⟨q, hq, hh⟩

/-- The twelve strips of one trip together: the columns from `b` to `b + 24576` read `T`, the others what was there. -/
theorem read_trip {off : Fin 12 → Fin 2 → ℕ} {b : ℕ} (inb : ∀ r a, off r a + (![8, 2048] : Fin 2 → ℕ) a ≤ S8x100000.size a)
    (hoff : ∀ r, off r = ![0, b + 2048 * r.val])
    (w : (r : Fin 12) → (Rect.unit (s := S8x100000) (off r) ![8, 2048] (inb r)).shape.Idx → Val .f32)
    (M : List (Piece Val S8x100000 .f32)) (T : S8x100000.Idx → Val .f32)
    (hw : ∀ r x, w r x = T ((Rect.unit (s := S8x100000) (off r) ![8, 2048] (inb r)).emb x)) (y : S8x100000.Idx) :
    v.read Val (v.writes Val f ((([11, 10, 9, 8, 7, 6, 5, 4, 3, 2, 1, 0] : List (Fin 12)).map fun r =>
          (⟨Rect.unit (s := S8x100000) (off r) ![8, 2048] (inb r), w r⟩ : Piece Val S8x100000 .f32)) ++ M)) y
      = if b ≤ (y 1).val ∧ (y 1).val < b + 24576 then T y else v.read Val (v.writes Val f M) y := by
  rw [read_strips v f inb hoff w M T hw y]
  refine if_congr ⟨?_, ?_⟩ rfl rfl
  · rintro ⟨r, -, h⟩
    have := r.isLt
    omega
  · intro h
    refine ⟨⟨((y 1).val - b) / 2048, by omega⟩, ?_, ?_⟩
    · generalize (⟨((y 1).val - b) / 2048, _⟩ : Fin 12) = r
      revert r; decide
    · show b + 2048 * (((y 1).val - b) / 2048) ≤ (y 1).val ∧ (y 1).val < b + 2048 * (((y 1).val - b) / 2048) + 2048
      omega

/-- A load over a rectangle that was stored earlier in a run of stores does not depend on what lay below them. -/
theorem read_stored [∀ e, Nonempty (Val e)] (r : Rect S8x100000) (w : r.shape.Idx → Val .f32) (A B : List (Piece Val S8x100000 .f32)) :
    v.readCov (A ++ ⟨r, w⟩ :: B) r.toLoadRect = v.readAt Val r.toLoadRect (v.writes Val f (A ++ ⟨r, w⟩ :: B)) :=
  (View.readAt_writes_of_cover v f _ _ fun j =>
    ⟨⟨r, w⟩, List.mem_append_right _ List.mem_cons_self, by
      show r.emb j ∈ r.set
      rw [← Rect.map_emb_univ]
      exact Finset.mem_map_of_mem _ (Finset.mem_univ j)⟩).symm

end Cert.Strip

end
-- ==== Proof.Tile.lean ====
/-
  What one block of eight rows ends with, as a function of its logits: the exponentials, the rows' sums in the order in
  which the kernel takes them, and the quotients; and what the kernel's loops hold on the way there.
-/
module

public import proofs.«01_k».proof.Proof.Trips
public import proofs.«01_k».proof.Proof.Cover
public import Idealize.ShloMosaic.Lib.ValueIdxCore
public import Idealize.ShloMosaic.Lib.Pipeline.Value

@[expose] public section

noncomputable section

namespace Cert.KernelIdeal.Val

open Idealize.ShloMosaic Idealize.ShloMosaic.TcCoe Idealize.SL.Sem Cert.KernelIdeal Cert.KernelIdeal.Gen

variable {F : FTy → Type} [FloatOps F] [Named F]

/-- The cell of row `a` and column `n`. -/
def cell (a : Fin 8) (n : ℕ) : S8x100000.Idx := ix2 a (Fin.ofNat 100000 n)

/-- The counter word of a cell of block `i`: its place in the whole array, plus 42. -/
def word (i : grid0.Coords) (y : S8x100000.Idx) : BitVec 32 :=
  BitVec.ofNat 32 ((8 * (i 0).val + (y 0).val) * 100000 + (y 1).val + 42)

/-- The exponentials of block `i` from its logits. -/
def expos (i : grid0.Coords) (x : Vec F S8x100000 .f32) : Vec F S8x100000 .f32 := fun y => Lanes.lane (word i y) (x y)

/-- The 2048 columns of exponentials from column `o` on. -/
def strip (i : grid0.Coords) (x : Vec F S8x100000 .f32) (o : ℕ) : FVec F S8x2048 .f32 :=
  fun j => expos i x (cell (j 0) (o + (j 1).val))

/-- The last 1696 columns of exponentials. -/
def tail (i : grid0.Coords) (x : Vec F S8x100000 .f32) : FVec F S8x1696 .f32 :=
  fun j => expos i x (cell (j 0) (98304 + (j 1).val))

/-- The lanes' running sums after `n` trips of twelve strips. -/
def accAt (i : grid0.Coords) (x : Vec F S8x100000 .f32) : ℕ → FVec F S8x2048 .f32
  | 0 => k0_pay500
  | n + 1 => ([0, 1, 2, 3, 4, 5, 6, 7, 8, 9, 10, 11] : List (Fin 12)).foldl
      (fun a r => addf a (strip i x (24576 * n + 2048 * r.val))) (accAt i x n)

/-- Each row's factor: one over the sum of its exponentials, lanes first, then the tail. -/
def factor (i : grid0.Coords) (x : Vec F S8x100000 .f32) : FVec F S8x1 .f32 :=
  divf (broadcast S8x1 (Scalar.ofBits .f32 0x3F800000#32))
    (addf (k0_pay503 (accAt i x 4))
      (shapeCast S8x1 (multiReduction .add [1] S8 (tail i x) 0x00000000#32 Facts₀.reduces_S8x1696_S8 (.inl rfl) rfl) Facts₀.shapeCasts_S8_S8x1))

/-- What block `i` ends with: each exponential times its row's factor. -/
def blockOut (i : grid0.Coords) (x : Vec F S8x100000 .f32) : Vec F S8x100000 .f32 :=
  mulf (expos i x) fun y => factor i x (ix2 (y 0) 0)

/-- A cell of the block's result. -/
theorem blockOut_apply (i : grid0.Coords) (x : Vec F S8x100000 .f32) (y : S8x100000.Idx) :
    blockOut i x y = FloatOps.mulf (expos i x y) (factor i x (ix2 (y 0) 0)) := rfl

/-! ## The counter words -/

/-- The words of the base: lane `j` holds the place of row `j 0`, column `j 1`, plus 42. -/
theorem base_apply (i : grid0.Coords) (j : S8x2048.Idx) :
    k0_pay499 i j = BitVec.ofNat 32 ((8 * (i 0).val + (j 0).val) * 100000 + (j 1).val + 42) := by
  have h0 : (j 0).val < 8 := (j 0).isLt
  have h1 : (j 1).val < 2048 := (j 1).isLt
  have hi : (i 0).val < 16 := (i 0).isLt
  show (BitVec.ofNat 32 (0 * 8 + (j 0).val) + BitVec.ofNat 32 (i 0).val * 8#32) * 100000#32
    + (BitVec.ofNat 32 (0 * 2048 + (j 1).val) + 42#32) = _
  apply BitVec.eq_of_toNat_eq
  simp only [BitVec.toNat_add, BitVec.toNat_mul, BitVec.toNat_ofNat]
  omega

/-- The row of a cell, -/
theorem cell_row (a : Fin 8) (n : ℕ) : (cell a n) 0 = a := rfl

/-- and its column. -/
theorem cell_col (a : Fin 8) (n : ℕ) (h : n < 100000) : ((cell a n) 1).val = n := Nat.mod_eq_of_lt h

/-- A cell's word. -/
theorem word_cell (i : grid0.Coords) (a : Fin 8) (n : ℕ) (h : n < 100000) :
    word i (cell a n) = BitVec.ofNat 32 ((8 * (i 0).val + a.val) * 100000 + n + 42) := by
  unfold word
  rw [cell_row, cell_col _ _ h]

/-- Adding a column offset to the base words gives the words of the cells that far to the right. -/
theorem base_add (i : grid0.Coords) (j : S8x2048.Idx) (o : ℕ) (h : o + (j 1).val < 100000) :
    k0_pay499 i j + BitVec.ofNat 32 o = word i (cell (j 0) (o + (j 1).val)) := by
  refine Eq.trans ?_ (word_cell i (j 0) _ h).symm
  rw [base_apply, ← BitVec.ofNat_add]
  refine congrArg (BitVec.ofNat 32) ?_
  omega

/-- The words of a chunk are those of its strip's cells. -/
theorem words1_apply (i : grid0.Coords) (k : Fin k0_t1_loop.trips) (r : Fin 12) (j : S8x2048.Idx) :
    words1 i k r j = word i (cell (j 0) (24576 * k.val + 2048 * r.val + (j 1).val)) := by
  have hk : k.val < 4 := k.isLt
  have hr := r.isLt
  have h1 : (j 1).val < 2048 := (j 1).isLt
  rw [← base_add i j _ (by omega)]
  show k0_pay499 i j + ((0#32 + BitVec.ofNat 32 k.val * 1#32) * 24576#32 + BitVec.ofNat 32 (2048 * r.val)) = _
  congr 1
  apply BitVec.eq_of_toNat_eq
  simp only [BitVec.toNat_add, BitVec.toNat_mul, BitVec.toNat_ofNat]
  omega

/-- The words of the tail. -/
def wordsT (i : grid0.Coords) : IVec S8x1696 32 :=
  addi (extractStridedSlice S8x1696 ![0, 0] (k0_pay499 i) Facts₀.slices_S8x2048_o0_0_S8x1696) (broadcast S8x1696 98304#32)

/-- They are those of the last 1696 columns' cells. -/
theorem wordsT_apply (i : grid0.Coords) (j : S8x1696.Idx) : wordsT i j = word i (cell (j 0) (98304 + (j 1).val)) := by
  have h1 : (j 1).val < 1696 := (j 1).isLt
  have h0 : (j 0).val < 8 := (j 0).isLt
  let q : S8x2048.Idx := ix2 (⟨(j 0).val, h0⟩ : Fin 8) (⟨(j 1).val, by omega⟩ : Fin 2048)
  have hq : wordsT i j = k0_pay499 i q + 98304#32 := by
    show extractStridedSlice S8x1696 ![0, 0] (k0_pay499 i) Facts₀.slices_S8x2048_o0_0_S8x1696 j + 98304#32 = _
    refine congrArg (fun z => k0_pay499 i z + 98304#32) (funext fun a => Fin.ext ?_)
    match a with
    | ⟨0, _⟩ => exact Nat.zero_add _
    | ⟨1, _⟩ => exact Nat.zero_add _
  rw [hq]
  exact base_add i q 98304 (by show 98304 + (j 1).val < 100000; omega)

/-! ## The chunks and the tail -/

/-- A place of a rectangle of columns is a cell. -/
theorem emb_cell {off size : Fin 2 → ℕ} {o W : ℕ} (inb : ∀ a, off a + size a ≤ S8x100000.size a) (hoff : off = ![0, o])
    (hsize : size = ![8, W]) (x : (Rect.unit (s := S8x100000) off size inb).shape.Idx) (a : Fin 8) (n : ℕ)
    (ha : a.val = (x 0).val) (hn : n = o + (x 1).val) :
    (Rect.unit (s := S8x100000) off size inb).emb x = cell a n := by
  subst hoff hsize
  have hx : (x 1).val < W := (x 1).isLt
  have hb : o + W ≤ 100000 := inb 1
  funext b
  apply Fin.ext
  match b with
  | ⟨0, _⟩ =>
    show 0 + 1 * (x 0).val = a.val
    omega
  | ⟨1, _⟩ =>
    show o + 1 * (x 1).val = n % 100000
    omega

variable (i : grid0.Coords) (arg1 : Memref sig .tc .vmem S8x100000 .f32) (harg1 : arg1.IsWhole)
  (arg2 : Memref sig .tc .vmem S8x100000 .f32) (harg2 : arg2.IsWhole) (x : Vec F S8x100000 .f32)

/-- A chunk, lane by lane: the exponentials of its places. -/
theorem chunk1_apply (k : Fin k0_t1_loop.trips) (r : Fin 12) (j : (rect1 k r).shape.Idx) :
    chunk1 i arg1 (harg1.unread x) k r j = expos i x ((rect1 k r).emb j) := by
  unfold chunk1
  refine (Lanes.block_apply _ _ _).trans ?_
  rw [words1_apply, View.readAt_eq_ld, harg1.read_unread]
  have e : (rect1 k r).emb j = cell (j 0) (24576 * k.val + 2048 * r.val + (j 1).val) :=
    emb_cell _ (k0_off1_eq k r) rfl j _ _ rfl rfl
  rw [e]
  unfold expos
  congr 1
  exact congrArg x e

/-- So a chunk is its strip. -/
theorem chunk1_eq (k : Fin k0_t1_loop.trips) (r : Fin 12) :
    chunk1 i arg1 (harg1.unread x) k r = strip i x (24576 * k.val + 2048 * r.val) := by
  funext j
  refine (chunk1_apply i arg1 harg1 x k r j).trans ?_
  exact congrArg (expos i x) (emb_cell _ (k0_off1_eq k r) rfl j _ _ rfl rfl)

/-- The rectangle of the tail. -/
abbrev rectT : Rect S8x100000 := Rect.unit (s := S8x100000) ![0, 98304] S8x1696.size Facts₀.inb_S8x100000_S8x1696_0_98304

/-- The words that the tail's exponentials start from, as the body computes them. -/
abbrev bitsT : IVec S8x1696 32 :=
  k0_pay537
    (k0_pay535 (k0_pay521 (k0_pay509 i) (k0_pay510 i) (k0_pay511 i) 26#32) (k0_pay522 (k0_pay509 i) (k0_pay510 i) (k0_pay511 i) 26#32))
    (k0_pay536 (k0_pay521 (k0_pay509 i) (k0_pay510 i) (k0_pay511 i) 26#32) (k0_pay522 (k0_pay509 i) (k0_pay510 i) (k0_pay511 i) 26#32))
    24#32

/-- The tail's exponentials as a block of lanes. -/
theorem tail_block (l : Vec F S8x1696 .f32) : k0_pay538 (bitsT i) 0x3F800000#32 l = Lanes.block (wordsT i) l := by
  unfold bitsT
  unfold_payloads
  dsimp only [wordsT, Lanes.block, Lanes.expo, Lanes.unit, Lanes.cipher, Lanes.key, Lanes.keyR, Lanes.quadA, Lanes.quadB, Lanes.first, Lanes.tripleA, Lanes.round, Lanes.turn]
  rfl

/-- The tail, lane by lane. -/
theorem tail_apply (j : rectT.shape.Idx) :
    k0_pay538 (bitsT i) 0x3F800000#32 (View.readAt (Elt F) arg1.view rectT.toLoadRect (harg1.unread x)) j = expos i x (rectT.emb j) := by
  rw [tail_block]
  refine (Lanes.block_apply _ _ _).trans ?_
  rw [wordsT_apply, View.readAt_eq_ld, harg1.read_unread]
  have e : rectT.emb j = cell (j 0) (98304 + (j 1).val) := emb_cell _ rfl rfl j _ _ rfl rfl
  rw [e]
  unfold expos
  congr 1
  exact congrArg x e

theorem tail_eq :
    k0_pay538 (bitsT i) 0x3F800000#32 (View.readAt (Elt F) arg1.view rectT.toLoadRect (harg1.unread x)) = tail i x := by
  funext j
  refine (tail_apply i arg1 harg1 x j).trans ?_
  exact congrArg (expos i x) (emb_cell _ rfl rfl j _ _ rfl rfl)

/-! ## The loops -/

variable (𝒱 : Variants) (c : Dev nD) (bd : Option 𝒱.V)

/-- What the first loop carries after `n` trips. -/
theorem st_acc : ∀ n, n ≤ 4 →
    (st_k0_t1 (F := F) 𝒱 c bd i arg1 harg1 arg2 harg2 (harg1.unread x) k0_pay500 n).1 = accAt i x n
  | 0, _ => st_k0_t1_zero ..
  | n + 1, h => by
    rw [st_k0_t1_succ 𝒱 c bd i arg1 harg1 arg2 harg2 (harg1.unread x) k0_pay500 (⟨n, h⟩ : Fin k0_t1_loop.trips)]
    dsimp only
    rw [tripR_eq, st_acc n (by omega), accAt]
    simp only [chunk1_eq]

/-- What the output's buffer holds after `n` trips of the first loop: the exponentials in the columns gone through. -/
theorem st_read (f : BufTy.Contents (Elt F) arg2.view.ty) (y : S8x100000.Idx) : ∀ n, n ≤ 4 → (y 1).val < 24576 * n →
    arg2.view.read (Elt F) (arg2.view.writes (Elt F) f
      (st_k0_t1 (F := F) 𝒱 c bd i arg1 harg1 arg2 harg2 (harg1.unread x) k0_pay500 n).2) y = expos i x y
  | 0, _, h => absurd h (by omega)
  | n + 1, hn, h => by
    rw [st_k0_t1_succ 𝒱 c bd i arg1 harg1 arg2 harg2 (harg1.unread x) k0_pay500 (⟨n, hn⟩ : Fin k0_t1_loop.trips)]
    dsimp only
    rw [tripL_eq]
    refine (Strip.read_trip arg2.view f (fun r => k0_off1_inb (⟨n, hn⟩ : Fin k0_t1_loop.trips) r)
      (fun r => k0_off1_eq (⟨n, hn⟩ : Fin k0_t1_loop.trips) r) _ _ (expos i x)
      (fun r j => chunk1_apply i arg1 harg1 x (⟨n, hn⟩ : Fin k0_t1_loop.trips) r j) y).trans ?_
    by_cases h' : 24576 * n ≤ (y 1).val ∧ (y 1).val < 24576 * n + 24576
    · rw [if_pos h']
    · rw [if_neg h']
      exact st_read f y n (by omega) (by omega)

/-- What it holds after the tail's store: the exponentials. -/
theorem stored (f : BufTy.Contents (Elt F) arg2.view.ty) (y : S8x100000.Idx) :
    arg2.view.read (Elt F) (arg2.view.writes (Elt F) f
      (⟨rectT, k0_pay538 (bitsT i) 0x3F800000#32 (View.readAt (Elt F) arg1.view rectT.toLoadRect (harg1.unread x))⟩ ::
        (st_k0_t1 (F := F) 𝒱 c bd i arg1 harg1 arg2 harg2 (harg1.unread x) k0_pay500 4).2)) y = expos i x y := by
  refine (Strip.read_store arg2.view f (o := 98304) (W := 1696) _ _ _ (expos i x) rfl rfl (tail_apply i arg1 harg1 x) y).trans ?_
  have hy : (y 1).val < 100000 := (y 1).isLt
  split
  · rfl
  · exact st_read i arg1 harg1 arg2 harg2 x 𝒱 c bd f y 4 le_rfl (by omega)

/-- A row's factor, spread over a strip. -/
theorem spread_apply (R : FVec F S8x1 .f32) (j : S8x2048.Idx) :
    broadcastTo S8x2048 R Facts₀.broadcasts_S8x1_S8x2048 j = R (ix2 (j 0) 0) := by
  refine congrArg R (funext fun a => Fin.ext ?_)
  match a with
  | ⟨0, _⟩ => rfl
  | ⟨1, _⟩ => rfl

/-- A chunk of the second loop, lane by lane. -/
theorem chunk2_apply (R : FVec F S8x1 .f32) (Y : BufTy.Contents (Elt F) arg2.view.ty) (k : Fin k0_t2_loop.trips) (r : Fin 12)
    (j : S8x2048.Idx) : chunk2 arg2 R Y k r j
      = FloatOps.mulf (arg2.view.read (Elt F) Y ((rect2 k r).emb j)) (R (ix2 (j 0) 0)) := by
  unfold chunk2
  refine congrArg₂ FloatOps.mulf ?_ (spread_apply R j)
  exact congrFun (shapeCast_self (s := S8x2048) (View.readAt (Elt F) arg2.view (rect2 k r).toLoadRect Y) _) j

/-- The second loop: after `n` trips the columns gone through hold what they held times their row's factor, the others
    what they held. -/
theorem pb_read (v14 : FVec F S8x1 .f32) (v177 : IVec S8x1696 32) (cc : BitVec 32) (v192 : Vec F S8x1696 .f32)
    (G : BufTy.Contents (Elt F) arg2.view.ty) (T : Vec F S8x100000 .f32) (hG : ∀ y, arg2.view.read (Elt F) G y = T y) :
    ∀ n, n ≤ 4 → ∀ y : S8x100000.Idx,
    arg2.view.read (Elt F) (arg2.view.writes (Elt F) G
      (pb_k0_t2 (F := F) 𝒱 c bd i arg1 harg1 arg2 harg2 v14 v177 cc v192 G n)) y
      = if (y 1).val < 24576 * n then mulf T (fun y => k0_pay539 v14 v177 cc v192 (ix2 (y 0) 0)) y else T y
  | 0, _, y => by
    rw [if_neg (by omega)]
    exact hG y
  | n + 1, hn, y => by
    have ih := pb_read v14 v177 cc v192 G T hG n (by omega)
    rw [pb_k0_t2_succ 𝒱 c bd i arg1 harg1 arg2 harg2 v14 v177 cc v192 G (⟨n, hn⟩ : Fin k0_t2_loop.trips), trip2_eq]
    refine (Strip.read_trip arg2.view G (fun r => k0_off2_inb (⟨n, hn⟩ : Fin k0_t2_loop.trips) r)
      (fun r => k0_off2_eq (⟨n, hn⟩ : Fin k0_t2_loop.trips) r) _ _
      (mulf T (fun y => k0_pay539 v14 v177 cc v192 (ix2 (y 0) 0))) (fun r j => ?_) y).trans ?_
    · have e : (rect2 (⟨n, hn⟩ : Fin k0_t2_loop.trips) r).emb j = cell (j 0) (24576 * n + 2048 * r.val + (j 1).val) :=
        emb_cell _ (k0_off2_eq (⟨n, hn⟩ : Fin k0_t2_loop.trips) r) rfl j _ _ rfl rfl
      have hj : (j 1).val < 2048 := (j 1).isLt
      have hr := r.isLt
      have hT := ih ((rect2 (⟨n, hn⟩ : Fin k0_t2_loop.trips) r).emb j)
      have hc : (((rect2 (⟨n, hn⟩ : Fin k0_t2_loop.trips) r).emb j) 1).val = 24576 * n + 2048 * r.val + (j 1).val := by
        rw [e]
        exact cell_col (j 0) _ (by omega)
      rw [if_neg (by omega)] at hT
      refine (chunk2_apply arg2 _ _ _ r j).trans ?_
      exact congrArg₂ FloatOps.mulf hT (congrArg (fun z : S8x100000.Idx => k0_pay539 v14 v177 cc v192 (ix2 (z 0) 0)) e.symm)
    · rw [ih y]
      by_cases h : (y 1).val < 24576 * n
      · rw [if_neg (by show ¬(24576 * n ≤ (y 1).val ∧ _); omega), if_pos h, if_pos (by omega)]
      · by_cases h' : (y 1).val < 24576 * n + 24576
        · rw [if_pos (by show 24576 * n ≤ (y 1).val ∧ (y 1).val < 24576 * n + 24576; omega), if_pos (by omega)]
        · rw [if_neg (by show ¬(24576 * n ≤ (y 1).val ∧ (y 1).val < 24576 * n + 24576); omega), if_neg h, if_neg (by omega)]

/-! ## The whole body -/

/-- The tail's logits, as loaded. -/
abbrev loadT : Vec F S8x1696 .f32 := View.readAt (Elt F) arg1.view rectT.toLoadRect (harg1.unread x)

/-- The row sums that the first loop leads to. -/
abbrev sums : FVec F S8x1 .f32 :=
  k0_pay503 (st_k0_t1 (F := F) 𝒱 c bd i arg1 harg1 arg2 harg2 (harg1.unread x) k0_pay500 4).1

/-- The factor that the body computes is the rows' factor. -/
theorem factor_eq : k0_pay539 (sums i arg1 harg1 arg2 harg2 x 𝒱 c bd) (bitsT i) 0x3F800000#32 (loadT arg1 harg1 x) = factor i x := by
  unfold k0_pay539 factor sums loadT
  dsimp only
  rw [st_acc i arg1 harg1 arg2 harg2 x 𝒱 c bd 4 le_rfl, tail_eq]

/-- The stores of the first loop and of the tail. -/
abbrev stores1 : List (View.Piece (Elt F) S8x100000 .f32) :=
  ⟨rectT, k0_pay538 (bitsT i) 0x3F800000#32 (loadT arg1 harg1 x)⟩ ::
    (st_k0_t1 (F := F) 𝒱 c bd i arg1 harg1 arg2 harg2 (harg1.unread x) k0_pay500 4).2

/-- The stores up to the end of the second loop. -/
abbrev stores2 (f : BufTy.Contents (Elt F) arg2.view.ty) : List (View.Piece (Elt F) S8x100000 .f32) :=
  pb_k0_t2 (F := F) 𝒱 c bd i arg1 harg1 arg2 harg2 (sums i arg1 harg1 arg2 harg2 x 𝒱 c bd) (bitsT i) 0x3F800000#32 (loadT arg1 harg1 x)
      (arg2.view.writes (Elt F) f (stores1 i arg1 harg1 arg2 harg2 x 𝒱 c bd)) 4 ++ stores1 i arg1 harg1 arg2 harg2 x 𝒱 c bd

/-- After the second loop: quotients in the columns before the tail, exponentials in the tail. -/
theorem read_stores2 (f : BufTy.Contents (Elt F) arg2.view.ty) (y : S8x100000.Idx) :
    arg2.view.read (Elt F) (arg2.view.writes (Elt F) f (stores2 i arg1 harg1 arg2 harg2 x 𝒱 c bd f)) y
      = if (y 1).val < 98304 then blockOut i x y else expos i x y := by
  unfold stores2
  rw [View.writes_append, pb_read i arg1 harg1 arg2 harg2 𝒱 c bd _ _ _ _ _ (expos i x) (stored i arg1 harg1 arg2 harg2 x 𝒱 c bd f) 4 le_rfl y,
    factor_eq]
  rfl

/-- A row's factor, spread over the tail. -/
theorem spreadT_apply (R : FVec F S8x1 .f32) (j : S8x1696.Idx) :
    broadcastTo S8x1696 R Facts₀.broadcasts_S8x1_S8x1696 j = R (ix2 (j 0) 0) := by
  refine congrArg R (funext fun a => Fin.ext ?_)
  match a with
  | ⟨0, _⟩ => rfl
  | ⟨1, _⟩ => rfl

/-- What the body's last store writes, lane by lane. -/
theorem last_apply (v14 : FVec F S8x1 .f32) (v177 : IVec S8x1696 32) (cc : BitVec 32) (v192 : Vec F S8x1696 .f32)
    (Y : BufTy.Contents (Elt F) arg2.view.ty) (j : S8x1696.Idx) :
    k0_pay542 v14 v177 cc v192 (View.readAt (Elt F) arg2.view rectT.toLoadRect Y) j
      = FloatOps.mulf (arg2.view.read (Elt F) Y (rectT.emb j)) (k0_pay539 v14 v177 cc v192 (ix2 (j 0) 0)) := by
  unfold k0_pay542
  refine congrArg₂ FloatOps.mulf ?_ (spreadT_apply _ j)
  exact congrFun (shapeCast_self (s := S8x1696) (View.readAt (Elt F) arg2.view rectT.toLoadRect Y) _) j

/-- The tail that the last store reads is covered by the stores before it, so it does not depend on what lay below. -/
theorem read_cov (f : BufTy.Contents (Elt F) arg2.view.ty) :
    arg2.view.readCov (stores2 i arg1 harg1 arg2 harg2 x 𝒱 c bd f) rectT.toLoadRect
      = View.readAt (Elt F) arg2.view rectT.toLoadRect (arg2.view.writes (Elt F) f (stores2 i arg1 harg1 arg2 harg2 x 𝒱 c bd f)) :=
  Strip.read_stored arg2.view f rectT _ _ _

/-- What the output's buffer reads at the end of the body. -/
theorem read_final (f : BufTy.Contents (Elt F) arg2.view.ty) :
    arg2.view.read (Elt F) (arg2.view.writes (Elt F) f
      (⟨rectT, k0_pay542 (sums i arg1 harg1 arg2 harg2 x 𝒱 c bd) (bitsT i) 0x3F800000#32 (loadT arg1 harg1 x)
          (arg2.view.readCov (stores2 i arg1 harg1 arg2 harg2 x 𝒱 c bd f) rectT.toLoadRect)⟩ ::
        stores2 i arg1 harg1 arg2 harg2 x 𝒱 c bd f)) = blockOut i x := by
  rw [read_cov]
  funext y
  refine (Strip.read_store arg2.view f (o := 98304) (W := 1696) _ _ _ (blockOut i x) rfl rfl (fun j => ?_) y).trans ?_
  · refine (last_apply arg2 _ _ _ _ _ j).trans ?_
    have e : rectT.emb j = cell (j 0) (98304 + (j 1).val) := emb_cell _ rfl rfl j _ _ rfl rfl
    have hj : (j 1).val < 1696 := (j 1).isLt
    have hc : ((rectT.emb j) 1).val = 98304 + (j 1).val := by
      rw [e]
      exact cell_col (j 0) _ (by omega)
    have e0 : (rectT.emb j) 0 = j 0 := by
      rw [e]
      rfl
    refine Eq.trans ?_ (blockOut_apply i x _).symm
    rw [read_stores2, if_neg (by omega), factor_eq]
    exact congrArg (fun a : Fin 8 => FloatOps.mulf (expos i x (rectT.emb j)) (factor i x (ix2 a 0))) e0.symm
  · have hy : (y 1).val < 100000 := (y 1).isLt
    rw [read_stores2]
    split
    · rfl
    · rw [if_pos (by omega)]

end Cert.KernelIdeal.Val

end
-- ==== Proof.Body.lean ====
/-
  The kernel's body over the whole grid: from a point's logits it leaves the point's block of the result, and the launch
  leaves the blocks in the result array.
-/
module

public import proofs.«01_k».proof.Proof.Gen.KernelIdeal.Frame
public import proofs.«01_k».proof.Proof.Tile

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A loop makes four trips. -/
theorem trips1 : Scf.trips k0_t1_loop.lb k0_t1_loop.ub k0_t1_loop.st = 4 := by decide

set_option maxHeartbeats 1000000 in
/-- The body's triple: on whole staging memrefs, the input's at the block `x0` and the output's at anything, the body runs
    and leaves the input's as it was and the output's at the block's result. -/
theorem body_run (c : Dev nD) (i : grid0.Coords) (arg1 : Memref sig .tc .vmem S8x100000 .f32) (harg1 : arg1.IsWhole) (arg2 : Memref sig .tc .vmem S8x100000 .f32) (harg2 : arg2.IsWhole)
    (x0 : Vec F S8x100000 .f32) :
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ owns (c : Thread nD τ) arg2 fullShare (blockOut i x0)) -∗ K ⟨⟩))
          ⊢ wp frame (wpE (defs₀ (F := F)) Variants.none c none) E (cc0__gumbel_softmax_block i arg1 harg1 arg2 harg2) K := by
    intro E K
    simp only [cc0__gumbel_softmax_block_eq_skeleton]; unfold cc0__gumbel_softmax_block_skel
    simp only [k0_part54_eq_skeleton, k0_part55_eq_skeleton, k0_part56_eq_skeleton, k0_part57_eq_skeleton, k0_part58_eq_skeleton]
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; isplitr; swap; · iexact H1
    ipureintro
    sl_unfold_words
    rw [trips1]
    exact read_final i arg1 harg1 arg2 harg2 x0 Variants.none c none f1

/-! ## The pipeline's proof data -/

/-- The arrays as the region finds them; after the body at a point the input's buffer holds its block and the output's
    what the body computes from it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blockOut (grid0.coords t) (iblk m c 0 t)
  Φ _ := Pipeline.ΦA spec0 c
  q _ := fullShare
  owed _ := 0

/-- The proof data's arrays are those that the region finds. -/
theorem A_eq (c : Dev nD) (w : Fin cfg0.W) : (dats m 0 c).A w = V m c (Pipeline.arrRef spec0 w) := by
  dsimp only [dats]

/-- What the body leaves in the input's buffer, -/
theorem after0_0 (c : Dev nD) (t : Fin cfg0.N) : (dats m 0 c).after 0 t = iblk m c 0 t := by dsimp only [dats]

/-- and in the output's. -/
theorem after0_1 (c : Dev nD) (t : Fin cfg0.N) : (dats m 0 c).after 1 t = blockOut (grid0.coords t) (iblk m c 0 t) := by
  dsimp only [dats]

/-- The input's buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation -/

/-- The input's buffer at a point, -/
abbrev ms0_0 (t : Fin cfg0.N) : Memref sig .tc .vmem S8x100000 .f32 := win0_0.stage (cfg0.slots t 0)

/-- and the output's. -/
abbrev ms0_1 (t : Fin cfg0.N) : Memref sig .tc .vmem S8x100000 .f32 := win0_1.stage (cfg0.slots t 1)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply ((body_run c (grid0.coords t) _ _ _ _ (iblk m c 0 t)) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The launch: the arrays end as the proof data say, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Val

end
-- ==== Proof.BlockSum.lean ====
/-
  The sum a block divides by, over the extended reals: the lanes' running sums and the tail add up to the sum of the whole row.
-/
module

public import proofs.«01_k».proof.Proof.Tile
public import Idealize.ShloMosaic.PureOps.Ideal.Laws

@[expose] public section

noncomputable section

namespace Cert.KernelIdeal.Val

open Idealize.ShloMosaic Cert.KernelIdeal Cert.KernelIdeal.Gen

/-- Sums over strips of `w` are the sum over all of them. -/
theorem sum_strips (g : ℕ → EReal) (w T : ℕ) :
    ∑ t ∈ Finset.range T, ∑ l ∈ Finset.range w, g (w * t + l) = ∑ n ∈ Finset.range (w * T), g n := by
  induction T with
  | zero => simp
  | succ T ih => rw [Finset.sum_range_succ, ih, Nat.mul_succ, Finset.sum_range_add]

variable (i : grid0.Coords) (x : Vec Ideal S8x100000 .f32)

/-- The value zero. -/
theorem ofBits_zero : (FloatOps.ofBits (F := Ideal) .f32 0x00000000#32 : EReal) = 0 := by
  show Ideal.ofBits .f32 0x00000000#32 = 0
  simp [Ideal.ofBits, Ideal.ieee]

/-- A lane's running sum after `n` trips: its exponentials in the first `12 n` strips. -/
theorem accAt_apply (a : Fin 8) (l : Fin 2048) (n : ℕ) :
    (accAt i x n (ix2 a l) : EReal) = ∑ t ∈ Finset.range (12 * n), (expos i x (cell a (2048 * t + l.val)) : EReal) := by
  induction n with
  | zero => exact ofBits_zero
  | succ n ih =>
    have hs : ∀ r : ℕ, (strip i x (24576 * n + 2048 * r) (ix2 a l) : EReal) = expos i x (cell a (2048 * (12 * n + r) + l.val)) := by
      intro r
      show expos i x (cell a (24576 * n + 2048 * r + l.val)) = _
      rw [show 24576 * n + 2048 * r = 2048 * (12 * n + r) by ring]
    have hacc : (accAt i x (n + 1) (ix2 a l) : EReal)
        = ([0, 1, 2, 3, 4, 5, 6, 7, 8, 9, 10, 11] : List (Fin 12)).foldl
            (fun (s : EReal) r => s + strip i x (24576 * n + 2048 * r.val) (ix2 a l)) (accAt i x n (ix2 a l)) := rfl
    rw [hacc, ih, show 12 * (n + 1) = 12 * n + 12 by ring, Finset.sum_range_add]
    simp only [List.foldl, hs, Finset.sum_range_succ, Finset.sum_range_zero, add_assoc, zero_add]
    rfl

/-- A column of eight values is their list: its cell of row `a` is entry `a`. -/
theorem column_entry : ∀ a : Fin 8, ((Shape.reshapeEquiv Facts₀.shapeCasts_S8_S8x1 (ix2 a 0)) 0).val = a.val := by
  decide

/-- The row sums of a block of `w` columns, as a column: the sum along the row. -/
theorem column_sum {w : ℕ} (v : FVec Ideal ⟨2, ![8, w]⟩ .f32) (h : (⟨2, ![8, w]⟩ : Shape).Reduces [1] S8) (a : Fin 8) :
    (shapeCast S8x1 (multiReduction .add [1] S8 v 0x00000000#32 h (.inl rfl) rfl) Facts₀.shapeCasts_S8_S8x1 (ix2 a 0) : EReal)
      = ∑ l : Fin w, v (ix2 a l) := by
  refine (Ideal.multiReduction_add_single v 0x00000000#32 h (.inl rfl) rfl _).trans ?_
  refine Finset.sum_congr rfl fun k _ => congrArg v (funext fun b => Fin.ext ?_)
  match b with
  | ⟨0, _⟩ => exact column_entry a
  | ⟨1, _⟩ => rfl

/-- A row's sum of exponentials. -/
def rowSum (a : Fin 8) : EReal := ∑ n : Fin 100000, (expos i x (ix2 a n) : EReal)

/-- The kernel's sum of a row is that. -/
theorem row_sum (a : Fin 8) :
    (k0_pay503 (accAt i x 4) (ix2 a 0) : EReal)
        + (shapeCast S8x1 (multiReduction .add [1] S8 (tail i x) 0x00000000#32 Facts₀.reduces_S8x1696_S8 (.inl rfl) rfl) Facts₀.shapeCasts_S8_S8x1 (ix2 a 0) : EReal)
      = rowSum i x a := by
  have hg : rowSum i x a = ∑ n ∈ Finset.range 100000, (expos i x (cell a n) : EReal) := by
    rw [Finset.sum_range]
    refine Finset.sum_congr rfl fun n _ => ?_
    show _ = expos i x (ix2 a (Fin.ofNat 100000 n.val))
    rw [show Fin.ofNat 100000 n.val = n from Fin.ext (Nat.mod_eq_of_lt n.isLt)]
  have h1 : (∑ l : Fin 2048, (accAt i x 4 (ix2 a l) : EReal)) = ∑ n ∈ Finset.range (2048 * 48), (expos i x (cell a n) : EReal) := by
    rw [← sum_strips, Finset.sum_comm, Finset.sum_range]
    exact Finset.sum_congr rfl fun l _ => accAt_apply i x a l 4
  have h2 : (∑ l : Fin 1696, (tail i x (ix2 a l) : EReal)) = ∑ n ∈ Finset.range 1696, (expos i x (cell a (2048 * 48 + n)) : EReal) := by
    rw [Finset.sum_range]
    exact Finset.sum_congr rfl fun l _ => rfl
  refine (congrArg₂ (· + ·) ((column_sum (w := 2048) (accAt i x 4) _ a).trans h1)
    ((column_sum (w := 1696) (tail i x) _ a).trans h2)).trans ?_
  rw [hg]
  exact (Finset.sum_range_add _ _ _).symm

/-- A row's factor: one over the row's sum. -/
theorem factor_apply (a : Fin 8) :
    (factor i x (ix2 a 0) : EReal) = Ideal.div (FloatOps.ofBits (F := Ideal) .f32 0x3F800000#32) (rowSum i x a) :=
  congrArg (Ideal.div _) (row_sum i x a)

end Cert.KernelIdeal.Val

end
-- ==== Proof.Result.lean ====
/-
  What the kernel's result array holds after the run, over the extended reals: at row `R` and column `C` the exponential
  there times one over the sum of the row's exponentials.
-/
module

public import proofs.«01_k».proof.Proof.Body
public import proofs.«01_k».proof.Proof.BlockSum
public import Idealize.ShloMosaic.Lib.Pipeline.ValueKit
public import Idealize.ShloMosaic.Lib.Claim

@[expose] public section

set_option maxRecDepth 16384

noncomputable section

namespace Cert.KernelIdeal.Val

open Idealize.ShloMosaic Idealize.ShloMosaic.TcCoe Idealize.SL.Sem Cert.KernelIdeal Cert.KernelIdeal.Gen

/-- The counter word of a cell of the array: its place, plus 42. -/
def wordAt (R : Fin 128) (C : Fin 100000) : BitVec 32 := BitVec.ofNat 32 (R.val * 100000 + C.val + 42)

variable (X : Vec Ideal S128x100000 .f32)

/-- The exponential at a row and a column. -/
def expAt (R : Fin 128) (C : Fin 100000) : EReal := Lanes.lane (F := Ideal) (wordAt R C) (X (ix2 R C))

/-- The result at a row and a column. -/
def quotient (R : Fin 128) (C : Fin 100000) : EReal :=
  expAt X R C * Ideal.div (FloatOps.ofBits (F := Ideal) .f32 0x3F800000#32) (∑ n : Fin 100000, expAt X R n)

/-- The result array. -/
def result : Vec Ideal S128x100000 .f32 := fun p => quotient X (p 0) (p 1)

/-- The block of eight rows that starts at row `8 i`. -/
def rowsOf (i : grid0.Coords) (x : Vec Ideal S8x100000 .f32) : Prop :=
  ∀ (a : Fin 8) (n : Fin 100000) (R : Fin 128), R.val = 8 * (i 0).val + a.val → x (ix2 a n) = X (ix2 R n)

/-- A block's result is the array's, at its rows. -/
theorem block_result (i : grid0.Coords) (x : Vec Ideal S8x100000 .f32) (hx : rowsOf X i x) (a : Fin 8) (n : Fin 100000)
    (R : Fin 128) (hR : R.val = 8 * (i 0).val + a.val) : (blockOut i x (ix2 a n) : EReal) = quotient X R n := by
  have he : ∀ n : Fin 100000, (expos i x (ix2 a n) : EReal) = expAt X R n := by
    intro n
    show Lanes.lane (F := Ideal) (BitVec.ofNat 32 ((8 * (i 0).val + a.val) * 100000 + n.val + 42)) (x (ix2 a n)) = _
    rw [hx a n R hR, ← hR]
    rfl
  have hs : rowSum i x a = ∑ n : Fin 100000, expAt X R n := Finset.sum_congr rfl fun n _ => he n
  refine congrArg₂ (· * ·) (he n) ((factor_apply i x a).trans ?_)
  rw [hs]

variable (m : (ℓ : Loc nD τ sig) → Buf (Elt Ideal) ℓ) (ρ : Dev nD → PrngReg)

/-- Both windows' blocks are the grid's point. -/
theorem index_0 : ∀ t : Fin cfg0.N, win0_0.index t = ![(grid0.coords t 0).val, 0] := by decide +kernel

theorem index_1 : ∀ t : Fin cfg0.N, win0_1.index t = ![(grid0.coords t 0).val, 0] := by decide +kernel

/-- The logits of a point's block are the array's, at its rows. -/
theorem iblk_rows (c : Dev nD) (t : Fin cfg0.N) :
    rowsOf (m ((c.tc : Thread nD τ).loc main_arg0)) (grid0.coords t) (iblk m c 0 t) := by
  intro a n R hR
  blk_simp [iblk]
  refine congrArg (m ((c.tc : Thread nD τ).loc main_arg0)) ?_
  blk_ext [index_0]

/-- The result array after the run. -/
theorem final_o (c : Dev nD) : (dats m 0 c).arrAt 1 cfg0.N = result (m ((c.tc : Thread nD τ).loc main_arg0)) := by
  refine (dats m 0 c).arrAt_eq_of_covers 1 _ (by decide +kernel) fun t hf y => ?_
  blk_simp
  rw [after0_1]
  have hy : y = ix2 (y 0) (y 1) := funext fun a => by
    match a with
    | ⟨0, _⟩ => rfl
    | ⟨1, _⟩ => rfl
  have h0 : (((win0_1.blk t).view.emb y) 0).val = 8 * (grid0.coords t 0).val + (y 0).val := by
    blk_simp [index_1]
    omega
  have h1 : ((win0_1.blk t).view.emb y) 1 = y 1 := Fin.ext (by
    blk_simp [index_1])
  refine (congrArg (blockOut (grid0.coords t) (iblk m c 0 t)) hy).trans ?_
  refine (block_result _ _ _ (iblk_rows m c t) (y 0) (y 1) (((win0_1.blk t).view.emb y) 0) h0).trans ?_
  exact congrArg (quotient (m ((c.tc : Thread nD τ).loc main_arg0)) (((win0_1.blk t).view.emb y) 0)) h1.symm

/-- The run: the result array at that, the argument unchanged. -/
theorem run : θ_run (defs (F := Ideal)) (onTc (τ := τ) (main (F := Ideal))) ⟨m, fun _ => 0, ρ⟩ fun r => ∀ c : Dev nD,
    r.2.mem ((c.tc : Thread nD τ).loc main_v0) = result (m ((c.tc : Thread nD τ).loc main_arg0))
      ∧ r.2.mem ((c.tc : Thread nD τ).loc main_arg0) = m ((c.tc : Thread nD τ).loc main_arg0) :=
  (θ_run _ _ _).mono (fun _ h c => ⟨((h.1 c).1 1).trans (final_o m c),
    ((h.1 c).1 0).trans (((dats m 0 c).arrAt_in 0 rfl _).trans ((A_eq m c 0).trans (V_main_arg0 m c)))⟩) (run_main m ρ)

/-- The argument unchanged and every semaphore counter at zero. -/
theorem run_counters : θ_run (defs (F := Ideal)) (onTc (τ := τ) (main (F := Ideal))) ⟨m, fun _ => 0, ρ⟩ fun r =>
    (∀ c : Dev nD, r.2.mem ((c.tc : Thread nD τ).loc main_arg0) = m ((c.tc : Thread nD τ).loc main_arg0))
      ∧ r.2.sem = fun _ => 0 :=
  (θ_run _ _ _).mono (fun _ h => ⟨fun c => (h.1 c).2, h.2⟩) (θ_run_and (run m ρ) ((θ_run _ _ _).mono (fun _ h => h.2) (run_main m ρ)))

end Cert.KernelIdeal.Val

end
-- ==== Proof.RefOps.lean ====
/-
  The reference program as one straight line of host operations: the list, read off the printed functions, and the run
  it gives.
-/
module

public import proofs.«01_k».proof.ReferenceIdeal
public import proofs.«01_k».proof.Proof.Gen.ReferenceIdeal
public import Idealize.ShloMosaic.Lib.StableHlo.RunHlo
public import Idealize.ShloMosaic.Lib.StableHlo.RunRead

@[expose] public section

noncomputable section

namespace Cert.RefRun

open Idealize.ShloMosaic Idealize.ShloMosaic.StableHlo Idealize.SL.Sem Cert.ReferenceIdeal Cert.ReferenceIdeal.Facts₀

section Lines
variable {nD : Nat} {τ : Topo} {sig : RefSig} {Val : EltTy → Type} {Λ : Labels}

/-- A single operation at the end of a block is a line of one. -/
theorem line_last {op : HloOp τ sig Val} :
    IsSeq (nD := nD) (Λ := Λ) (hlo rfl op fun _ => .ret (⟨⟩ : PUnit)) [op] := rfl

/-- A called line followed by a line is their concatenation. -/
theorem line_then {p k : Prog (TpuEff nD τ sig Val Λ .tc) PUnit} {a b : List (HloOp τ sig Val)}
    (hp : IsSeq p a) (hk : IsSeq k b) : IsSeq (p >>= fun _ => k) (a ++ b) := by
  unfold IsSeq at *; rw [hp, hk, seq_append]
end Lines

variable {F : FTy → Type} [FloatOps F]

/-- The operations of `threefry2x32`, in order. -/
def cipherLine (a0 a1 : TRef sig ⟨S_, .i32⟩) (a2 a3 : TRef sig ⟨S128x100000, .i32⟩) (φ : fn_threefry2x32.Bufs) :
    { ops // IsSeq (fn_threefry2x32.body (F := F) a0 a1 a2 a3 φ) ops } := by
  apply Subtype.mk
  case property =>
    unfold fn_threefry2x32.body
    apply line_then
    · unfold fn_threefry2x32.body_part0; repeat (first | exact line_last | apply IsSeq.cons)
    apply line_then
    · unfold fn_threefry2x32.body_part1; repeat (first | exact line_last | apply IsSeq.cons)
    apply line_then
    · unfold fn_threefry2x32.body_part2; repeat (first | exact line_last | apply IsSeq.cons)
    · unfold fn_threefry2x32.body_part3; repeat (first | exact IsSeq.nil | exact line_last | apply IsSeq.cons)

/-- The operations of `uniform`, in order. -/
def uniformLine (a0 : TRef sig ⟨S2, .i32⟩) (a1 a2 : TRef sig ⟨S_, .f32⟩) (φ : fn_uniform.Bufs) :
    { ops // IsSeq (fn_uniform.body (F := F) a0 a1 a2 φ) ops } := by
  apply Subtype.mk
  case property =>
    unfold fn_uniform.body
    repeat (first
      | exact IsSeq.nil | exact line_last
      | (apply IsSeq.cons)
      | apply line_then (cipherLine _ _ _ _ _).2)

/-- The operations of the whole program, in order. -/
def mainLine : { ops // IsSeq (main (F := F) 0) ops } := by
  apply Subtype.mk
  case property =>
    unfold main
    repeat (first
      | exact IsSeq.nil | exact line_last
      | (apply IsSeq.cons)
      | apply line_then (uniformLine _ _ _ _).2)

/-- The program's operations as one list. -/
def ops : List (HloOp τ sig (Elt F)) := mainLine.1

/-- From any memory and with all counters at zero, the program runs to the contents its operations leave, in order. -/
theorem run (m : (ℓ : Loc nD τ sig) → Buf (Elt F) ℓ) (ρ : Dev nD → PrngReg) :
    θ_run defs (onTc (τ := τ) main) ⟨m, fun _ => 0, ρ⟩ fun r =>
      ∀ (d : Dev nD) (b : Ref sig .tc), r.2.mem ((d.tc : Thread nD τ).loc b) =
        after ops (launchContents m d) (Proc.devRef .tc b) :=
  run_hlo defs main (ops := ops) (fun _ => mainLine.2) (by decide) (by decide) (by simp [ops, mainLine, uniformLine, cipherLine])
    (by intro _ h; (repeat (cases h with | head => rfl | tail _ h => ?_)); exact nomatch h) m ρ

end Cert.RefRun

end
-- ==== Proof.RefRead.lean ====
/-
  What the reference program leaves in its result buffer, stretch by stretch: the counter words, the five groups of
  four cipher rounds, the uniform numbers, and the softmax.
-/
module

public import proofs.«01_k».proof.Proof.RefOps

@[expose] public section

noncomputable section

namespace Cert.RefRun

open Idealize.ShloMosaic Idealize.ShloMosaic.StableHlo Idealize.SL.Sem Cert.ReferenceIdeal Cert.ReferenceIdeal.Facts₀

variable {F : FTy → Type} [FloatOps F]

/-- Two stretches one after the other leave what the second leaves from what the first left. -/
theorem after_concat (a b : List (HloOp τ sig (Elt F))) (V : Valuation τ sig (Elt F)) :
    after (a ++ b) V = after b (after a V) := by
  induction a generalizing V with
  | nil => rfl
  | cons o a ih => exact ih _

/-- A stretch of the program: `k` operations from operation `n` on. -/
def win (n k : ℕ) : List (HloOp τ sig (Elt F)) := ((ops (F := F)).drop n).take k

/-- The program from operation `n` on. -/
def rest (n : ℕ) : List (HloOp τ sig (Elt F)) := (ops (F := F)).drop n

/-- The contents after `n + k` operations are those the stretch of `k` leaves from the contents after `n`. -/
theorem upto_win (V : Valuation τ sig (Elt F)) (n k : ℕ) : upto ops V (n + k) = after (win n k) (upto ops V n) := by
  unfold upto win
  rw [← after_concat, List.take_add]

/-- The contents after the program are those its rest leaves from the contents after `n` operations. -/
theorem after_rest (V : Valuation τ sig (Elt F)) (n : ℕ) : after ops V = after (rest n) (upto ops V n) := by
  unfold upto rest
  rw [← after_concat, List.take_append_drop]

/-- A word spread over the whole array. -/
def spread (a : IVec S_ 32) : IVec S128x100000 32 := broadcastInDim S128x100000 ![] bcast_S_S128x100000 a

/-- A float spread over the whole array. -/
def spreadF (a : FVec F S_ .f32) : FVec F S128x100000 .f32 := broadcastInDim S128x100000 ![] bcast_S_S128x100000 a

/-- One round of the cipher as the host operations write it: rotate left by `l` (right by `r`). -/
def hostRound (l r : BitVec 32) (p : IVec S128x100000 32 × IVec S128x100000 32) : IVec S128x100000 32 × IVec S128x100000 32 :=
  let s := addi p.1 p.2
  (s, xori s (ori (Host.shli p.2 (spread (constantI S_ 32 l))) (Host.shrui p.2 (spread (constantI S_ 32 r)))))

/-- Adding two key words and a counter, as the host operations write it. -/
def hostKey (a b : IVec S_ 32) (i : BitVec 32) (p : IVec S128x100000 32 × IVec S128x100000 32) : IVec S128x100000 32 × IVec S128x100000 32 :=
  (addi p.1 (spread a), addi (addi p.2 (spread b)) (spread (constantI S_ 32 i)))

/-- Four rounds with the first set of rotations. -/
def hostQuadA (p : IVec S128x100000 32 × IVec S128x100000 32) : IVec S128x100000 32 × IVec S128x100000 32 :=
  hostRound 6 26 (hostRound 26 6 (hostRound 15 17 (hostRound 13 19 p)))

/-- Four rounds with the second set of rotations. -/
def hostQuadB (p : IVec S128x100000 32 × IVec S128x100000 32) : IVec S128x100000 32 × IVec S128x100000 32 :=
  hostRound 24 8 (hostRound 16 16 (hostRound 29 3 (hostRound 17 15 p)))

/-- The first group of four rounds. -/
theorem quad1 (U : Valuation τ sig (Elt F)) :
    ((after (win 41 43) U (Proc.devRef .tc main_call0_call0_v35),
      after (win 41 43) U (Proc.devRef .tc main_call0_call0_v39)) : IVec S128x100000 32 × IVec S128x100000 32) =
    hostKey (U (Proc.devRef .tc main_call0_v7)) (U (Proc.devRef .tc main_call0_call0_v1)) 1
      (hostQuadA (U (Proc.devRef .tc main_call0_call0_v3), U (Proc.devRef .tc main_call0_call0_v5))) := by
  after_reads_simp
  simp only [TRef.ofBuf_toBuf]
  rfl

/-- The second group of four rounds. -/
theorem quad2 (U : Valuation τ sig (Elt F)) :
    ((after (win 84 43) U (Proc.devRef .tc main_call0_call0_v69),
      after (win 84 43) U (Proc.devRef .tc main_call0_call0_v73)) : IVec S128x100000 32 × IVec S128x100000 32) =
    hostKey (U (Proc.devRef .tc main_call0_call0_v1)) (U (Proc.devRef .tc main_call0_v5)) 2
      (hostQuadB (U (Proc.devRef .tc main_call0_call0_v35), U (Proc.devRef .tc main_call0_call0_v39))) := by
  after_reads_simp
  simp only [TRef.ofBuf_toBuf]
  rfl

/-- The third group of four rounds. -/
theorem quad3 (U : Valuation τ sig (Elt F)) :
    ((after (win 127 43) U (Proc.devRef .tc main_call0_call0_v103),
      after (win 127 43) U (Proc.devRef .tc main_call0_call0_v107)) : IVec S128x100000 32 × IVec S128x100000 32) =
    hostKey (U (Proc.devRef .tc main_call0_v5)) (U (Proc.devRef .tc main_call0_v7)) 3
      (hostQuadA (U (Proc.devRef .tc main_call0_call0_v69), U (Proc.devRef .tc main_call0_call0_v73))) := by
  after_reads_simp
  simp only [TRef.ofBuf_toBuf]
  rfl

/-- The fourth group of four rounds. -/
theorem quad4 (U : Valuation τ sig (Elt F)) :
    ((after (win 170 43) U (Proc.devRef .tc main_call0_call0_v137),
      after (win 170 43) U (Proc.devRef .tc main_call0_call0_v141)) : IVec S128x100000 32 × IVec S128x100000 32) =
    hostKey (U (Proc.devRef .tc main_call0_v7)) (U (Proc.devRef .tc main_call0_call0_v1)) 4
      (hostQuadB (U (Proc.devRef .tc main_call0_call0_v103), U (Proc.devRef .tc main_call0_call0_v107))) := by
  after_reads_simp
  simp only [TRef.ofBuf_toBuf]
  rfl

/-- The fifth group of four rounds. -/
theorem quad5 (U : Valuation τ sig (Elt F)) :
    ((after (win 213 43) U (Proc.devRef .tc main_call0_v19_0),
      after (win 213 43) U (Proc.devRef .tc main_call0_v19_1)) : IVec S128x100000 32 × IVec S128x100000 32) =
    hostKey (U (Proc.devRef .tc main_call0_call0_v1)) (U (Proc.devRef .tc main_call0_v5)) 5
      (hostQuadA (U (Proc.devRef .tc main_call0_call0_v137), U (Proc.devRef .tc main_call0_call0_v141))) := by
  after_reads_simp
  simp only [TRef.ofBuf_toBuf]
  rfl

/-- The uniform numbers as the host operations make them from the two cipher words and the bounds. -/
def hostUnit (a b : IVec S128x100000 32) (lo hi : FVec F S1x1 .f32) : FVec F S128x100000 .f32 :=
  maximumf (broadcastInDim S128x100000 ![0, 1] bcast_S1x1_S128x100000_0_1 lo)
    (addf (mulf (subf (bitcastToFloat .f32 (ori (Host.shrui (xori a b) (spread (constantI S_ 32 9#32)))
        (spread (constantI S_ 32 0x3F800000#32)))) (spreadF (constant S_ .f32 0x3F800000#32)))
      (broadcastInDim S128x100000 ![0, 1] bcast_S1x1_S128x100000_0_1 (subf hi lo)))
    (broadcastInDim S128x100000 ![0, 1] bcast_S1x1_S128x100000_0_1 lo))

/-- The stretch that turns the cipher's words into uniform numbers. -/
theorem unit_read (U : Valuation τ sig (Elt F)) :
    (after (win 256 18) U (Proc.devRef .tc main_v7) : FVec F S128x100000 .f32) =
      hostUnit (U (Proc.devRef .tc main_call0_v19_0)) (U (Proc.devRef .tc main_call0_v19_1))
        (U (Proc.devRef .tc main_call0_v2)) (U (Proc.devRef .tc main_call0_v3)) := by
  after_reads_simp
  simp only [TRef.ofBuf_toBuf]
  rfl

/-- The perturbed logits over the temperature, as the host operations make them from the logits and the uniform
    numbers. -/
def hostScores (x u : FVec F S128x100000 .f32) : FVec F S128x100000 .f32 :=
  Host.divf (addf x (Host.negf (Host.log (addf (Host.negf (Host.log (addf u (spreadF (constant S_ .f32 0x322BCC77#32)))))
    (spreadF (constant S_ .f32 0x322BCC77#32)))))) (spreadF (constant S_ .f32 0x40A00000#32))

/-- A number per row spread along the rows. -/
def alongRows (a : FVec F S128 .f32) : FVec F S128x100000 .f32 :=
  broadcastInDim S128x100000 ![0, 1] bcast_S128x1_S128x100000_0_1 (broadcastInDim S128x1 ![0] bcast_S128_S128x1_0 a)

/-- The exponentials of the scores less each row's largest. -/
def hostExps (z : FVec F S128x100000 .f32) : FVec F S128x100000 .f32 :=
  Host.exp (subf z (alongRows (maximumf (broadcastInDim S128 ![] bcast_S_S128 (constant S_ .f32 0xFF800000#32))
    (Host.reduce FloatOps.maximumf z (constant S_ .f32 0xFF800000#32) reducesTo_S128x100000_S128_d1 h_S_))))

/-- Each row over its sum. -/
def hostNormal (e : FVec F S128x100000 .f32) : FVec F S128x100000 .f32 :=
  Host.divf e (alongRows (Host.reduceAdd e (constant S_ .f32 0x00000000#32) reducesTo_S128x100000_S128_d1 h_S_))

/-- The rest of the program: the softmax of the scores. -/
theorem softmax_read (U : Valuation τ sig (Elt F)) :
    (after (rest 274) U (Proc.devRef .tc main_v29) : FVec F S128x100000 .f32) =
      hostNormal (hostExps (hostScores (U (Proc.devRef .tc main_arg0)) (U (Proc.devRef .tc main_v7)))) := by
  after_reads_simp
  rfl

/-- The position of every element, row by row, as a 64-bit number. -/
def hostIndex : IVec S128x100000 64 :=
  addi (muli (broadcastInDim S128x100000 ![] bcast_S_S128x100000 (constantI S_ 64 100000#64)) (iotaInDim S128x100000 64 0))
    (muli (broadcastInDim S128x100000 ![] bcast_S_S128x100000 (constantI S_ 64 1#64)) (iotaInDim S128x100000 64 1))

/-- The two words of the key. -/
def hostKeys : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩]
    concatenates_S1_S1_S2_d0

/-- The key's first word. -/
def hostKey0 : IVec S_ 32 := shapeCast S_ (extractStridedSlice S1 ![0] hostKeys slices_S2_S1_0) shapeCasts_S1_S_

/-- The key's second word. -/
def hostKey1 : IVec S_ 32 := shapeCast S_ (extractStridedSlice S1 ![1] hostKeys slices_S2_S1_1) shapeCasts_S1_S_

/-- The key's third word: the first two and the cipher's constant, mixed. -/
def hostKey2 : IVec S_ 32 := xori (xori hostKey0 hostKey1) (constantI S_ 32 466688986#32)

/-- The cipher's input: the position's high and low word, each with its key word added. -/
def hostStart : IVec S128x100000 32 × IVec S128x100000 32 :=
  (addi (trunci 32 (Host.shrui hostIndex (broadcastInDim S128x100000 ![] bcast_S_S128x100000 (constantI S_ 64 32#64))) natLt_32_64)
    (spread hostKey0),
   addi (trunci 32 hostIndex natLt_32_64) (spread hostKey1))

/-- The first key word stays in its buffer. -/
theorem key0_read (V : Valuation τ sig (Elt F)) (n : ℕ) (hn : n = 41 ∨ n = 84 ∨ n = 127 ∨ n = 170 ∨ n = 213 ∨ n = 256) :
    (upto ops V n (Proc.devRef .tc main_call0_v5) : IVec S_ 32) = hostKey0 := by
  rcases hn with rfl | rfl | rfl | rfl | rfl | rfl <;>
  · after_reads_simp
    rfl

/-- The second key word stays in its buffer. -/
theorem key1_read (V : Valuation τ sig (Elt F)) (n : ℕ) (hn : n = 41 ∨ n = 84 ∨ n = 127 ∨ n = 170 ∨ n = 213 ∨ n = 256) :
    (upto ops V n (Proc.devRef .tc main_call0_v7) : IVec S_ 32) = hostKey1 := by
  rcases hn with rfl | rfl | rfl | rfl | rfl | rfl <;>
  · after_reads_simp
    rfl

/-- The third key word stays in its buffer. -/
theorem key2_read (V : Valuation τ sig (Elt F)) (n : ℕ) (hn : n = 41 ∨ n = 84 ∨ n = 127 ∨ n = 170 ∨ n = 213 ∨ n = 256) :
    (upto ops V n (Proc.devRef .tc main_call0_call0_v1) : IVec S_ 32) = hostKey2 := by
  rcases hn with rfl | rfl | rfl | rfl | rfl | rfl <;>
  · after_reads_simp
    simp only [TRef.ofBuf_toBuf]
    rfl

/-- The cipher's input. -/
theorem start_read (V : Valuation τ sig (Elt F)) :
    ((upto ops V 41 (Proc.devRef .tc main_call0_call0_v3), upto ops V 41 (Proc.devRef .tc main_call0_call0_v5)) :
      IVec S128x100000 32 × IVec S128x100000 32) = hostStart := by
  after_reads_simp
  simp only [TRef.ofBuf_toBuf]
  rfl

/-- The lower bound of the uniform numbers, 0. -/
theorem lo_read (V : Valuation τ sig (Elt F)) :
    (upto ops V 256 (Proc.devRef .tc main_call0_v2) : FVec F S1x1 .f32) =
      broadcastInDim S1x1 ![] bcast_S_S1x1 (constant S_ .f32 0x00000000#32) := by
  after_reads_simp
  simp only [TRef.ofBuf_toBuf]
  rfl

/-- The upper bound of the uniform numbers, 1. -/
theorem hi_read (V : Valuation τ sig (Elt F)) :
    (upto ops V 256 (Proc.devRef .tc main_call0_v3) : FVec F S1x1 .f32) =
      broadcastInDim S1x1 ![] bcast_S_S1x1 (constant S_ .f32 0x3F800000#32) := by
  after_reads_simp
  simp only [TRef.ofBuf_toBuf]
  rfl

/-- The cipher's two words, all five groups applied. -/
def hostCipher : IVec S128x100000 32 × IVec S128x100000 32 :=
  hostKey hostKey2 hostKey0 5 (hostQuadA (hostKey hostKey1 hostKey2 4 (hostQuadB (hostKey hostKey0 hostKey1 3 (hostQuadA
    (hostKey hostKey2 hostKey0 2 (hostQuadB (hostKey hostKey1 hostKey2 1 (hostQuadA hostStart)))))))))

/-- The cipher's two words stand in its result buffers. -/
theorem cipher_read (V : Valuation τ sig (Elt F)) :
    ((upto ops V 256 (Proc.devRef .tc main_call0_v19_0), upto ops V 256 (Proc.devRef .tc main_call0_v19_1)) :
      IVec S128x100000 32 × IVec S128x100000 32) = hostCipher := by
  have h1 : ((upto ops V 84 (Proc.devRef .tc main_call0_call0_v35),
      upto ops V 84 (Proc.devRef .tc main_call0_call0_v39)) : IVec S128x100000 32 × IVec S128x100000 32) =
      hostKey hostKey1 hostKey2 1 (hostQuadA hostStart) := by
    rw [show (84 : ℕ) = 41 + 43 from rfl, upto_win V 41 43, quad1, start_read V, key1_read V 41 (by simp), key2_read V 41 (by simp)]
  have h2 : ((upto ops V 127 (Proc.devRef .tc main_call0_call0_v69),
      upto ops V 127 (Proc.devRef .tc main_call0_call0_v73)) : IVec S128x100000 32 × IVec S128x100000 32) =
      hostKey hostKey2 hostKey0 2 (hostQuadB (hostKey hostKey1 hostKey2 1 (hostQuadA hostStart))) := by
    rw [show (127 : ℕ) = 84 + 43 from rfl, upto_win V 84 43, quad2, h1, key2_read V 84 (by simp), key0_read V 84 (by simp)]
  have h3 : ((upto ops V 170 (Proc.devRef .tc main_call0_call0_v103),
      upto ops V 170 (Proc.devRef .tc main_call0_call0_v107)) : IVec S128x100000 32 × IVec S128x100000 32) =
      hostKey hostKey0 hostKey1 3 (hostQuadA (hostKey hostKey2 hostKey0 2 (hostQuadB (hostKey hostKey1 hostKey2 1 (hostQuadA hostStart))))) := by
    rw [show (170 : ℕ) = 127 + 43 from rfl, upto_win V 127 43, quad3, h2, key0_read V 127 (by simp), key1_read V 127 (by simp)]
  have h4 : ((upto ops V 213 (Proc.devRef .tc main_call0_call0_v137),
      upto ops V 213 (Proc.devRef .tc main_call0_call0_v141)) : IVec S128x100000 32 × IVec S128x100000 32) =
      hostKey hostKey1 hostKey2 4 (hostQuadB (hostKey hostKey0 hostKey1 3 (hostQuadA (hostKey hostKey2 hostKey0 2 (hostQuadB (hostKey hostKey1 hostKey2 1 (hostQuadA hostStart))))))) := by
    rw [show (213 : ℕ) = 170 + 43 from rfl, upto_win V 170 43, quad4, h3, key1_read V 170 (by simp), key2_read V 170 (by simp)]
  rw [show (256 : ℕ) = 213 + 43 from rfl, upto_win V 213 43, quad5, h4, key2_read V 213 (by simp), key0_read V 213 (by simp)]
  rfl

/-- The uniform numbers of the reference. -/
def hostU : FVec F S128x100000 .f32 :=
  hostUnit hostCipher.1 hostCipher.2 (broadcastInDim S1x1 ![] bcast_S_S1x1 (constant S_ .f32 0x00000000#32))
    (broadcastInDim S1x1 ![] bcast_S_S1x1 (constant S_ .f32 0x3F800000#32))

/-- The reference's result: the softmax of the perturbed logits. -/
theorem out_read (V : Valuation τ sig (Elt F)) :
    (after ops V (Proc.devRef .tc main_v29) : FVec F S128x100000 .f32) =
      hostNormal (hostExps (hostScores (V (Proc.devRef .tc main_arg0)) hostU)) := by
  have h7 : (upto ops V 274 (Proc.devRef .tc main_v7) : FVec F S128x100000 .f32) = hostU := by
    rw [show (274 : ℕ) = 256 + 18 from rfl, upto_win V 256 18, unit_read, lo_read, hi_read]
    have h := cipher_read V
    have ha : (upto ops V 256 (Proc.devRef .tc main_call0_v19_0) : IVec S128x100000 32) = hostCipher.1 := congrArg Prod.fst h
    have hb : (upto ops V 256 (Proc.devRef .tc main_call0_v19_1) : IVec S128x100000 32) = hostCipher.2 := congrArg Prod.snd h
    rw [ha, hb]
    rfl
  have h0 : upto ops V 274 (Proc.devRef .tc main_arg0) = V (Proc.devRef .tc main_arg0) := by after_reads_simp
  rw [after_rest V 274, softmax_read, h7, h0]

/-- The logits stay as they were. -/
theorem arg_read (V : Valuation τ sig (Elt F)) :
    after ops V (Proc.devRef .tc main_arg0) = V (Proc.devRef .tc main_arg0) := by after_reads_simp

end Cert.RefRun

end
-- ==== Proof.Cipher.lean ====
/-
  The reference's cipher is the kernel's: the same two words at every cell, from the cell's place and the key 42.
-/
module

public import proofs.«01_k».proof.Proof.RefRead
public import proofs.«01_k».proof.Proof.Lanes
public import Idealize.ShloMosaic.Lib.KernelVsHost

@[expose] public section

noncomputable section

namespace Cert.Agree

open Idealize.ShloMosaic Cert.RefRun
open Cert.ReferenceIdeal (S128x100000)

/-- A constant scalar word. -/
abbrev word (a : BitVec 32) : IVec Cert.ReferenceIdeal.S_ 32 := constantI Cert.ReferenceIdeal.S_ 32 a

/-- The two halves of a rotation have no bit in common: their union is their exclusive union. -/
theorem or_halves (x : BitVec 32) (l r : ℕ) (h : l + r = 32) : (x <<< l) ||| (x >>> r) = (x <<< l) ^^^ (x >>> r) := by
  apply BitVec.eq_of_getLsbD_eq
  intro i hi
  simp only [BitVec.getLsbD_or, BitVec.getLsbD_xor, BitVec.getLsbD_shiftLeft, BitVec.getLsbD_ushiftRight]
  by_cases hl : i < l
  · simp [hl]
  · rw [BitVec.getLsbD_of_ge x (r + i) (by omega)]
    simp

/-- The host's rotation is the kernel's. -/
theorem turn_words (x l r : BitVec 32) (h : l.toNat + r.toNat = 32) (hl : l.toNat < 32) (hr : r.toNat < 32) :
    IntOp.ori (IntOp.shli .host x l) (IntOp.shrui .host x r) = IntOp.xori (IntOp.shli .vector x l) (IntOp.shrui .vector x r) := by
  unfold IntOp.shli IntOp.shrui
  rw [if_pos hl, if_pos hr, if_pos hl, if_pos hr]
  exact or_halves x _ _ h

/-- A host round is a kernel round. -/
theorem round_eq (l r : BitVec 32) (h : l.toNat + r.toNat = 32) (hl : l.toNat < 32) (hr : r.toNat < 32)
    (p : IVec S128x100000 32 × IVec S128x100000 32) : hostRound l r p = Lanes.round l r p := by
  refine Prod.ext rfl (funext fun j => ?_)
  show IntOp.xori (IntOp.addi (p.1 j) (p.2 j)) (IntOp.ori (IntOp.shli .host (p.2 j) l) (IntOp.shrui .host (p.2 j) r))
    = IntOp.xori (IntOp.xori (IntOp.shli .vector (p.2 j) l) (IntOp.shrui .vector (p.2 j) r)) (IntOp.addi (p.1 j) (p.2 j))
  rw [turn_words _ _ _ h hl hr]
  exact BitVec.xor_comm _ _

/-- The first group of rotations. -/
theorem quadA_eq (p : IVec S128x100000 32 × IVec S128x100000 32) : hostQuadA p = Lanes.quadA p := by
  unfold hostQuadA Lanes.quadA Lanes.tripleA
  simp only [round_eq 13 19 rfl (by decide) (by decide), round_eq 15 17 rfl (by decide) (by decide),
    round_eq 26 6 rfl (by decide) (by decide), round_eq 6 26 rfl (by decide) (by decide)]
  rfl

/-- The second group of rotations. -/
theorem quadB_eq (p : IVec S128x100000 32 × IVec S128x100000 32) : hostQuadB p = Lanes.quadB p := by
  unfold hostQuadB Lanes.quadB
  simp only [round_eq 17 15 rfl (by decide) (by decide), round_eq 29 3 rfl (by decide) (by decide),
    round_eq 16 16 rfl (by decide) (by decide), round_eq 24 8 rfl (by decide) (by decide)]
  rfl

/-- Adding a key word and then a counter is adding their sum. -/
theorem key_eq (a b i w : BitVec 32) (h : b + i = w) (p : IVec S128x100000 32 × IVec S128x100000 32) :
    hostKey (word a) (word b) i p = Lanes.key a w p := by
  subst h
  exact Prod.ext rfl (funext fun j => BitVec.add_assoc (p.2 j) b i)

/-- A key word of zero is left out. -/
theorem key_zero (w : BitVec 32) (p : IVec S128x100000 32 × IVec S128x100000 32) : Lanes.key 0#32 w p = Lanes.keyR w p :=
  Prod.ext (funext fun j => BitVec.add_zero (p.1 j)) rfl

/-- The first round from a first word of zero. -/
theorem quadA_zero (x : IVec S128x100000 32) : Lanes.quadA (fun _ => 0#32, x) = Lanes.tripleA (Lanes.first x) := by
  have h : Lanes.round 13#32 19#32 (fun _ => 0#32, x) = Lanes.first x := by
    have hz : addi (fun _ => 0#32) x = x := funext fun j => BitVec.zero_add (x j)
    unfold Lanes.round Lanes.first
    simp only [hz]
  unfold Lanes.quadA
  rw [h]

/-- The key's words are 0, 42, and the mix of both with the cipher's constant. -/
theorem key0_eq : hostKey0 = word 0#32 := funext (by decide +kernel)

theorem key1_eq : hostKey1 = word 42#32 := funext (by decide +kernel)

theorem key2_eq : hostKey2 = word 466689008#32 := by
  unfold hostKey2
  rw [key0_eq, key1_eq]
  exact funext (by decide +kernel)

/-- A place in the array as a 64-bit word. -/
theorem place_word (a b : ℕ) : IntOp.addi (IntOp.muli 100000#64 (BitVec.ofNat 64 a)) (IntOp.muli 1#64 (BitVec.ofNat 64 b))
    = BitVec.ofNat 64 (a * 100000 + b) := by
  apply BitVec.eq_of_toNat_eq
  simp [IntOp.addi, IntOp.muli, BitVec.toNat_add, BitVec.toNat_mul, Nat.mul_comm]

/-- Its high half is zero. -/
theorem place_high (n : ℕ) (h : n < 2 ^ 32) :
    (IntOp.shrui .host (BitVec.ofNat 64 n) 32#64).setWidth 32 = 0#32 := by
  unfold IntOp.shrui
  rw [if_pos (by decide)]
  apply BitVec.eq_of_toNat_eq
  simp only [BitVec.toNat_setWidth, BitVec.toNat_ushiftRight, BitVec.toNat_ofNat, BitVec.ushiftRight_eq']
  rw [Nat.mod_eq_of_lt (by omega : n < 2 ^ 64), Nat.shiftRight_eq_div_pow]
  rw [show 32 % 2 ^ 64 = 32 from rfl, Nat.div_eq_of_lt h]

/-- Its low half is the place. -/
theorem place_low (n : ℕ) : (BitVec.ofNat 64 n).setWidth 32 = BitVec.ofNat 32 n := by
  apply BitVec.eq_of_toNat_eq
  simp only [BitVec.toNat_setWidth, BitVec.toNat_ofNat]
  exact Nat.mod_mod_of_dvd n (by decide)

/-- The counter word of a cell: its place, plus 42. -/
def counter : IVec S128x100000 32 := fun j => BitVec.ofNat 32 ((j 0).val * 100000 + (j 1).val + 42)

theorem index_eq (j : S128x100000.Idx) : hostIndex j = BitVec.ofNat 64 ((j 0).val * 100000 + (j 1).val) := place_word _ _

/-- The cipher's input. -/
theorem start_eq : hostStart = (fun _ => 0#32, counter) := by
  unfold hostStart
  rw [key0_eq, key1_eq]
  refine Prod.ext (funext fun j => ?_) (funext fun j => ?_)
  · have h0 : (j 0).val < 128 := (j 0).isLt
    have h1 : (j 1).val < 100000 := (j 1).isLt
    show IntOp.addi ((IntOp.shrui .host (hostIndex j) 32#64).setWidth 32) 0#32 = 0#32
    rw [index_eq, place_high _ (by omega)]
    rfl
  · show IntOp.addi ((hostIndex j).setWidth 32) 42#32 = _
    rw [index_eq, place_low]
    exact (BitVec.ofNat_add _ _).symm

/-- The two words. -/
theorem cipher_eq : hostCipher = Lanes.cipher counter := by
  unfold hostCipher Lanes.cipher
  rw [key0_eq, key1_eq, key2_eq, start_eq]
  simp only [quadA_eq, quadB_eq, quadA_zero]
  rw [key_eq 42#32 466689008#32 1 466689009#32 rfl, key_eq 466689008#32 0#32 2 2#32 rfl,
    key_eq 0#32 42#32 3 45#32 rfl, key_eq 42#32 466689008#32 4 466689012#32 rfl, key_eq 466689008#32 0#32 5 5#32 rfl, key_zero]

end Cert.Agree

end
-- ==== Proof.Cells.lean ====
/-
  One cell of the arrays of both programs, operation by operation, at any reading of the floats.
-/
module

public import proofs.«01_k».proof.Proof.Cipher
public import Idealize.ShloMosaic.Lib.Pointwise.Index

@[expose] public section

noncomputable section

namespace Cert.Agree

open Idealize.ShloMosaic Cert.RefRun
open Cert.ReferenceIdeal (S128x100000)

variable {F : FTy → Type} [FloatOps F] (j : S128x100000.Idx)

/-- The word of a uniform number, from the cipher's two. -/
theorem bits_host (a : BitVec 32) : IntOp.ori (IntOp.shrui .host a 9#32) 0x3F800000#32 = (a >>> 9 ||| 0x3F800000#32) := by
  unfold IntOp.shrui IntOp.ori
  rw [if_pos (by decide)]
  rfl

theorem bits_vector (a : BitVec 32) : IntOp.ori (IntOp.shrui .vector a 9#32) 0x3F800000#32 = (a >>> 9 ||| 0x3F800000#32) := by
  unfold IntOp.shrui IntOp.ori
  rw [if_pos (by decide)]
  rfl

/-- The reference's uniform number. -/
theorem hostUnit_apply (a b : IVec S128x100000 32) (lo hi : F .f32) : hostUnit a b (fun _ => lo) (fun _ => hi) j
    = FloatOps.maximumf lo (FloatOps.addf (FloatOps.mulf (FloatOps.subf
        (FloatOps.ofBits .f32 (IntOp.ori (IntOp.shrui .host (IntOp.xori (a j) (b j)) 9#32) 0x3F800000#32)) (FloatOps.ofBits .f32 0x3F800000#32))
      (FloatOps.subf hi lo)) lo) := rfl

/-- A constant in one cell. -/
theorem spread_constant (w : BitVec 32) : (broadcastInDim Cert.ReferenceIdeal.S1x1 ![] Cert.ReferenceIdeal.Facts₀.bcast_S_S1x1
    (constant (F := F) Cert.ReferenceIdeal.S_ .f32 w)) = fun _ => FloatOps.ofBits .f32 w := rfl

/-- The reference's score. -/
theorem hostScores_apply (x u : FVec F S128x100000 .f32) : hostScores x u j
    = FloatOps.hostDivf (FloatOps.addf (x j) (FloatOps.hostNegf (FloatOps.hostUnary .log (FloatOps.addf
        (FloatOps.hostNegf (FloatOps.hostUnary .log (FloatOps.addf (u j) (FloatOps.ofBits .f32 0x322BCC77#32))))
        (FloatOps.ofBits .f32 0x322BCC77#32))))) (FloatOps.ofBits .f32 0x40A00000#32) := rfl

/-- A number per row, read at a cell. -/
theorem alongRows_apply (a : FVec F Cert.ReferenceIdeal.S128 .f32) (R : Fin 128) (C : Fin 100000) :
    alongRows a (ix2 R C) = a (ix1 R) := by
  unfold alongRows
  refine congrArg a (funext fun b => ?_)
  match b with
  | ⟨0, _⟩ => exact Fin.ext rfl

/-- The largest score of every row, as the reference's reduction makes it. -/
def hostMax (z : FVec F S128x100000 .f32) : FVec F Cert.ReferenceIdeal.S128 .f32 :=
  Host.reduce FloatOps.maximumf z (constant Cert.ReferenceIdeal.S_ .f32 0xFF800000#32)
    Cert.ReferenceIdeal.Facts₀.reducesTo_S128x100000_S128_d1 Cert.ReferenceIdeal.Facts₀.h_S_

/-- The reference's exponential: of the score less the row's largest. -/
theorem hostExps_apply (z : FVec F S128x100000 .f32) (R : Fin 128) (C : Fin 100000) : hostExps z (ix2 R C)
    = FloatOps.hostUnary .exp (FloatOps.subf (z (ix2 R C)) (FloatOps.maximumf (FloatOps.ofBits .f32 0xFF800000#32) (hostMax z (ix1 R)))) :=
  congrArg (fun t => FloatOps.hostUnary .exp (FloatOps.subf (z (ix2 R C)) t)) (alongRows_apply _ R C)

/-- The sum of every row, as the reference's reduction makes it. -/
def hostSum (e : FVec F S128x100000 .f32) : FVec F Cert.ReferenceIdeal.S128 .f32 :=
  Host.reduceAdd e (constant Cert.ReferenceIdeal.S_ .f32 0x00000000#32)
    Cert.ReferenceIdeal.Facts₀.reducesTo_S128x100000_S128_d1 Cert.ReferenceIdeal.Facts₀.h_S_

/-- The reference's quotient: the value over the row's sum. -/
theorem hostNormal_apply (e : FVec F S128x100000 .f32) (R : Fin 128) (C : Fin 100000) : hostNormal e (ix2 R C)
    = FloatOps.hostDivf (e (ix2 R C)) (hostSum e (ix1 R)) :=
  congrArg (FloatOps.hostDivf (e (ix2 R C))) (alongRows_apply _ R C)

variable [Named F]

/-- The kernel's uniform number, with the offset. -/
theorem unit_apply (p : IVec S128x100000 32 × IVec S128x100000 32) : Lanes.unit (F := F) p j
    = FloatOps.addf (FloatOps.subf (FloatOps.ofBits .f32
        (IntOp.ori (IntOp.shrui .vector (IntOp.xori (p.1 j) (p.2 j)) 9#32) 0x3F800000#32)) (FloatOps.ofBits .f32 0x3F800000#32))
      (FloatOps.ofBits .f32 0x322BCC77#32) := rfl

/-- The kernel's exponential. -/
theorem expo_apply (v l : FVec F S128x100000 .f32) : Lanes.expo v l j
    = FloatOps.exp2 (FloatOps.subf (FloatOps.mulf (l j) (Named.named Cert.KernelIdeal.κ "c_temp" 0x3E93BB63#32))
      (FloatOps.mulf (FloatOps.mulf (FloatOps.log (FloatOps.subf (FloatOps.ofBits .f32 0x322BCC77#32)
        (FloatOps.mulf (FloatOps.mulf (FloatOps.log (v j)) (Named.named Cert.KernelIdeal.κ "inv_ln2" 0x3FB8AA3B#32))
          (Named.named Cert.KernelIdeal.κ "ln2" 0x3F317218#32)))) (Named.named Cert.KernelIdeal.κ "inv_ln2" 0x3FB8AA3B#32))
        (Named.named Cert.KernelIdeal.κ "fifth" 0x3E4CCCCD#32))) := rfl

end Cert.Agree

end
-- ==== Proof.Numbers.lean ====
/-
  The numbers: the words that stand for floats as extended reals, one cell's uniform number, and that the kernel's power of
  two is the reference's exponential.
-/
module

public import Idealize.ShloMosaic.PureOps.Ideal.Laws
public import Idealize.ShloMosaic.Lib.IdealHost

@[expose] public section

noncomputable section

namespace Cert.Numbers

open Idealize.ShloMosaic

/-- The small offset. -/
def eps : ℝ := 11258999 / 2 ^ 50

theorem eps_pos : 0 < eps := by unfold eps; norm_num

theorem word_eps : Ideal.ofBits .f32 0x322BCC77#32 = (eps : EReal) := by
  unfold eps
  simp [Ideal.ofBits, Ideal.ieee, -EReal.coe_mul]
  norm_num

theorem word_one : Ideal.ofBits .f32 0x3F800000#32 = ((1 : ℝ) : EReal) := by
  simp [Ideal.ofBits, Ideal.ieee, -EReal.coe_mul]
  norm_num

theorem word_zero : Ideal.ofBits .f32 0x00000000#32 = ((0 : ℝ) : EReal) := by
  simp [Ideal.ofBits, Ideal.ieee]

theorem word_five : Ideal.ofBits .f32 0x40A00000#32 = ((5 : ℝ) : EReal) := by
  simp [Ideal.ofBits, Ideal.ieee, -EReal.coe_mul]
  norm_num

theorem word_bot : Ideal.ofBits .f32 0xFF800000#32 = (⊥ : EReal) := by
  simp [Ideal.ofBits, Ideal.ieee]

theorem word_top : Ideal.ofBits .f32 0x7F800000#32 = (⊤ : EReal) := by
  simp [Ideal.ofBits, Ideal.ieee]

/-- The exponent field of a word made of 23 bits under the exponent of 1 is that of 1. -/
theorem field_exponent (w : BitVec 32) : ((w >>> 9 ||| 0x3F800000#32).extractLsb' 23 8) = 127#8 := by
  apply BitVec.eq_of_getLsbD_eq
  intro i hi
  have h : w.getLsbD (9 + (23 + i)) = false := BitVec.getLsbD_of_ge _ _ (by omega)
  simp only [BitVec.getLsbD_extractLsb', BitVec.getLsbD_or, BitVec.getLsbD_ushiftRight, h]
  interval_cases i <;> rfl

/-- Its sign bit is clear. -/
theorem field_sign (w : BitVec 32) : ((w >>> 9 ||| 0x3F800000#32).extractLsb' 31 1) = 0#1 := by
  apply BitVec.eq_of_getLsbD_eq
  intro i hi
  have h : w.getLsbD (9 + (31 + i)) = false := BitVec.getLsbD_of_ge _ _ (by omega)
  simp only [BitVec.getLsbD_extractLsb', BitVec.getLsbD_or, BitVec.getLsbD_ushiftRight, h]
  interval_cases i
  rfl

/-- Such a word is a number from 1 up to, and not including, 2. -/
theorem word_unit (w : BitVec 32) : ∃ u : ℝ, 0 ≤ u ∧ u ≤ 1 - 1 / 2 ^ 23 ∧
    Ideal.ofBits .f32 (w >>> 9 ||| 0x3F800000#32) = ((1 + u : ℝ) : EReal) := by
  have hf : ((w >>> 9 ||| 0x3F800000#32).extractLsb' 0 23).toNat < 2 ^ 23 := BitVec.isLt _
  refine ⟨(((w >>> 9 ||| 0x3F800000#32).extractLsb' 0 23).toNat : ℝ) / 2 ^ 23, by positivity, ?_, ?_⟩
  · have h : (((w >>> 9 ||| 0x3F800000#32).extractLsb' 0 23).toNat : ℝ) ≤ 2 ^ 23 - 1 := by
      have := Nat.le_sub_one_of_lt hf
      have h2 : (((w >>> 9 ||| 0x3F800000#32).extractLsb' 0 23).toNat : ℝ) ≤ ((2 ^ 23 - 1 : ℕ) : ℝ) := by exact_mod_cast this
      refine h2.trans (by norm_num)
    rw [div_le_iff₀ (by norm_num)]
    refine h.trans (by norm_num)
  · generalize hn : ((w >>> 9 ||| 0x3F800000#32).extractLsb' 0 23).toNat = n
    show Ideal.ieee 8 23 (w >>> 9 ||| 0x3F800000#32) = _
    unfold Ideal.ieee
    simp only [show 8 + 23 = 31 from rfl, field_sign, field_exponent, hn]
    rw [if_neg (by decide), if_neg (by decide)]
    congr 1
    push_cast
    norm_num
    ring

/-- One cell's uniform number with the offset: both programs' numbers from the cipher's bits. -/
theorem unit_number (w : BitVec 32) : ∃ v : ℝ, 0 < v ∧ v < 1 ∧
    (Ideal.ofBits .f32 (w >>> 9 ||| 0x3F800000#32) - Ideal.ofBits .f32 0x3F800000#32)
        + Ideal.ofBits .f32 0x322BCC77#32 = (v : EReal) ∧
    max (Ideal.ofBits .f32 0x00000000#32) ((Ideal.ofBits .f32 (w >>> 9 ||| 0x3F800000#32) - Ideal.ofBits .f32 0x3F800000#32)
          * (Ideal.ofBits .f32 0x3F800000#32 - Ideal.ofBits .f32 0x00000000#32) + Ideal.ofBits .f32 0x00000000#32)
        + Ideal.ofBits .f32 0x322BCC77#32 = (v : EReal) := by
  obtain ⟨u, h0, h1, hw⟩ := word_unit w
  refine ⟨u + eps, add_pos_of_nonneg_of_pos h0 eps_pos, ?_, ?_, ?_⟩
  · refine (add_le_add_left h1 _).trans_lt ?_
    unfold eps
    norm_num
  · rw [hw, word_one, word_eps, ← EReal.coe_sub, ← EReal.coe_add]
    congr 1
    ring
  · rw [hw, word_one, word_eps, word_zero, ← EReal.coe_sub, ← EReal.coe_sub, ← EReal.coe_mul, ← EReal.coe_add,
      show (1 + u - 1) * (1 - 0) + 0 = u by ring, max_eq_right (EReal.coe_le_coe_iff.2 h0), ← EReal.coe_add]

/-- The logarithm of a positive real. -/
theorem log_pos (r : ℝ) (h : 0 < r) : Ideal.log (r : EReal) = (Real.log r : EReal) := by
  show (if r ≤ 0 then (⊥ : EReal) else (Real.log r : EReal)) = _
  rw [if_neg (not_le.2 h)]

/-- The perturbed logit over the temperature. -/
def score (l v : EReal) : EReal :=
  Ideal.div (l + -(Ideal.log (-(Ideal.log v) + Ideal.ofBits .f32 0x322BCC77#32))) (Ideal.ofBits .f32 0x40A00000#32)

/-- The kernel's exponent to the base two. -/
def power (l v : EReal) : EReal :=
  l * (((1 / 5) * (Real.log 2)⁻¹ : ℝ) : EReal) - ((Ideal.log (Ideal.ofBits .f32 0x322BCC77#32
    - ((Ideal.log v * (((Real.log 2)⁻¹ : ℝ) : EReal)) * ((Real.log 2 : ℝ) : EReal)))) * (((Real.log 2)⁻¹ : ℝ) : EReal)) * ((1 / 5 : ℝ) : EReal)

theorem log_two_pos : 0 < Real.log 2 := Real.log_pos (by norm_num)

/-- The noise, a real, and the score and the kernel's exponent in terms of it. -/
theorem noise (v : ℝ) (h0 : 0 < v) (h1 : v < 1) : ∃ g : ℝ, ∀ l : EReal,
    score l v = (l + ((-g : ℝ) : EReal)) * ((1 / 5 : ℝ) : EReal) ∧
    power l v = l * (((1 / 5) * (Real.log 2)⁻¹ : ℝ) : EReal) - ((g * (Real.log 2)⁻¹ * (1 / 5) : ℝ) : EReal) := by
  have hl : Real.log v < 0 := Real.log_neg h0 h1
  have h2 := log_two_pos.ne'
  refine ⟨Real.log (-Real.log v + eps), fun l => ⟨?_, ?_⟩⟩
  · unfold score
    rw [log_pos v h0, word_eps, word_five, ← EReal.coe_neg, ← EReal.coe_add, log_pos _ (by linarith [eps_pos]),
      Ideal.div_coe (by norm_num), EReal.coe_neg]
  · unfold power
    rw [log_pos v h0, word_eps, ← EReal.coe_mul, ← EReal.coe_mul, ← EReal.coe_sub,
      show eps - Real.log v * (Real.log 2)⁻¹ * Real.log 2 = -Real.log v + eps by field_simp; ring,
      log_pos _ (by linarith [eps_pos]), ← EReal.coe_mul, ← EReal.coe_mul]

/-- Of a logit below `⊤` the kernel's power of two is the reference's exponential of the score. -/
theorem power_score (l : EReal) (hl : l ≠ ⊤) (v : ℝ) (h0 : 0 < v) (h1 : v < 1) :
    Ideal.exp2 (power l v) = Ideal.exp (score l v) := by
  obtain ⟨g, h⟩ := noise v h0 h1
  rw [(h l).1, (h l).2]
  induction l with
  | bot =>
    rw [EReal.bot_mul_coe_of_pos (by have := log_two_pos; positivity), EReal.bot_add, EReal.bot_mul_coe_of_pos (by norm_num)]
    rw [sub_eq_add_neg, EReal.bot_add]
    rfl
  | top => exact absurd rfl hl
  | coe r =>
    rw [← EReal.coe_mul, ← EReal.coe_sub, ← EReal.coe_add, ← EReal.coe_mul]
    show ((Real.rpow 2 _ : ℝ) : EReal) = ((Real.exp _ : ℝ) : EReal)
    congr 1
    refine (Real.rpow_def_of_pos (by norm_num : (0 : ℝ) < 2) _).trans ?_
    congr 1
    have h2 := log_two_pos.ne'
    field_simp
    ring

/-- The score of a logit below `⊤` is below `⊤`. -/
theorem score_ne_top (l : EReal) (hl : l ≠ ⊤) (v : ℝ) (h0 : 0 < v) (h1 : v < 1) : score l v ≠ ⊤ := by
  obtain ⟨g, h⟩ := noise v h0 h1
  rw [(h l).1]
  induction l with
  | bot => rw [EReal.bot_add, EReal.bot_mul_coe_of_pos (by norm_num)]; exact bot_ne_top
  | top => exact absurd rfl hl
  | coe r => rw [← EReal.coe_add, ← EReal.coe_mul]; exact EReal.coe_ne_top _

/-- The score of a logit above `⊥` is above `⊥`. -/
theorem score_ne_bot (l : EReal) (hl : l ≠ ⊥) (v : ℝ) (h0 : 0 < v) (h1 : v < 1) : score l v ≠ ⊥ := by
  obtain ⟨g, h⟩ := noise v h0 h1
  rw [(h l).1]
  induction l with
  | bot => exact absurd rfl hl
  | top => rw [EReal.top_add_coe, EReal.top_mul_coe_of_pos (by norm_num)]; exact top_ne_bot
  | coe r => rw [← EReal.coe_add, ← EReal.coe_mul]; exact EReal.coe_ne_bot _

/-- The exponential of an extended real below `⊤`, as a real. -/
def expReal (z : EReal) : ℝ := (Ideal.exp z).toReal

theorem exp_real (z : EReal) (hz : z ≠ ⊤) : Ideal.exp z = (expReal z : EReal) := by
  unfold expReal
  induction z with
  | bot => show (0 : EReal) = ((0 : EReal).toReal : EReal); simp
  | top => exact absurd rfl hz
  | coe r => rfl

theorem expReal_nonneg (z : EReal) (hz : z ≠ ⊤) : 0 ≤ expReal z := by
  unfold expReal
  induction z with
  | bot => show 0 ≤ (0 : EReal).toReal; simp
  | top => exact absurd rfl hz
  | coe r => exact (Real.exp_pos r).le

theorem expReal_pos (z : EReal) (hz : z ≠ ⊤) (hb : z ≠ ⊥) : 0 < expReal z := by
  unfold expReal
  induction z with
  | bot => exact absurd rfl hb
  | top => exact absurd rfl hz
  | coe r => exact Real.exp_pos r

/-- Less a real, the exponential is scaled. -/
theorem exp_sub (z : EReal) (hz : z ≠ ⊤) (M : ℝ) : Ideal.exp (z - (M : EReal)) = ((expReal z * Real.exp (-M) : ℝ) : EReal) := by
  unfold expReal
  induction z with
  | bot => rw [sub_eq_add_neg, EReal.bot_add]; show (0 : EReal) = (((0 : EReal).toReal * Real.exp (-M) : ℝ) : EReal); simp
  | top => exact absurd rfl hz
  | coe r =>
    rw [← EReal.coe_sub]
    show ((Real.exp (r - M) : ℝ) : EReal) = ((Real.exp r * Real.exp (-M) : ℝ) : EReal)
    rw [← Real.exp_add, sub_eq_add_neg]

/-- A sum of reals, as extended reals. -/
theorem coe_sum {ι : Type} (s : Finset ι) (f : ι → ℝ) : ∑ n ∈ s, (f n : EReal) = ((∑ n ∈ s, f n : ℝ) : EReal) := by
  classical
  induction s using Finset.induction_on with
  | empty => simp
  | insert a s ha ih => rw [Finset.sum_insert ha, Finset.sum_insert ha, ih, EReal.coe_add]

/-- The softmax, with any real taken off the scores first, is each exponential times one over the sum of all. -/
theorem softmax {n : ℕ} (z : Fin n → EReal) (ht : ∀ k, z k ≠ ⊤) (hb : ∃ k, z k ≠ ⊥) (M : ℝ) (c : Fin n) :
    Ideal.div (Ideal.exp (z c - (M : EReal))) (((0 : ℝ) : EReal) + ∑ k, Ideal.exp (z k - (M : EReal)))
      = Ideal.exp (z c) * Ideal.div ((1 : ℝ) : EReal) (∑ k, Ideal.exp (z k)) := by
  obtain ⟨b, hb⟩ := hb
  have hS : 0 < ∑ k, expReal (z k) :=
    Finset.sum_pos' (fun k _ => expReal_nonneg _ (ht k)) ⟨b, Finset.mem_univ b, expReal_pos _ (ht b) hb⟩
  have hM := Real.exp_pos (-M)
  simp only [exp_sub _ (ht _), exp_real _ (ht _)]
  rw [coe_sum, coe_sum, ← EReal.coe_add, ← Finset.sum_mul, zero_add, Ideal.div_coe (mul_pos hS hM).ne', Ideal.div_coe hS.ne',
    ← EReal.coe_mul, ← EReal.coe_mul, ← EReal.coe_mul]
  congr 1
  field_simp

end Cert.Numbers

end
-- ==== Proof.Softmax.lean ====
/-
  The equation: at every cell the reference's softmax is the kernel's quotient, where no logit is `⊤` and every row has one
  above `⊥`.
-/
module

public import proofs.«01_k».proof.Proof.Cells
public import proofs.«01_k».proof.Proof.Numbers
public import proofs.«01_k».proof.Proof.Result
public import Idealize.ShloMosaic.Lib.IdealHost

@[expose] public section

noncomputable section

namespace Cert.Agree

open Idealize.ShloMosaic Cert.RefRun Cert.KernelIdeal.Val
open Cert.ReferenceIdeal (S128x100000)

/-- The words and the power of two, at the extended reals. -/
theorem ofBits_ideal (w : BitVec 32) : (FloatOps.ofBits (F := Ideal) .f32 w : EReal) = Ideal.ofBits .f32 w := rfl

theorem exp2_ideal (x : Ideal .f32) : FloatOps.exp2 (F := Ideal) x = Ideal.exp2 x := rfl

/-- A cell's uniform number with the offset, in both programs. -/
theorem unit_cell (j : S128x100000.Idx) : ∃ v : ℝ, 0 < v ∧ v < 1 ∧ (Lanes.unit (F := Ideal) (Lanes.cipher counter) j : EReal) = v ∧
    (hostU (F := Ideal) j : EReal) + Ideal.ofBits .f32 0x322BCC77#32 = v := by
  unfold hostU
  rw [cipher_eq, spread_constant, spread_constant, hostUnit_apply, unit_apply, bits_host, bits_vector]
  generalize Lanes.cipher counter = p
  obtain ⟨v, h0, h1, hk, hr⟩ := Numbers.unit_number (IntOp.xori (p.1 j) (p.2 j))
  refine ⟨v, h0, h1, ?_, ?_⟩
  · simp only [Ideal.addf_def, Ideal.subf_def, ofBits_ideal]
    exact hk
  · simp only [Ideal.addf_def, Ideal.subf_def, Ideal.mulf_def, Ideal.maximumf_def, ofBits_ideal]
    exact hr

variable (X : Vec Ideal S128x100000 .f32)

/-- The reference's score of a cell. -/
theorem score_cell (j : S128x100000.Idx) : (hostScores X (hostU (F := Ideal)) j : EReal)
    = Numbers.score (X j) ((hostU (F := Ideal) j : EReal) + Ideal.ofBits .f32 0x322BCC77#32) := by
  rw [hostScores_apply]
  generalize hostU (F := Ideal) j = u
  generalize X j = x
  unfold Numbers.score
  simp only [Ideal.addf_def, Ideal.hostNegf_def, Ideal.negf_def, Ideal.hostUnary_log_def, Ideal.hostDivf_def, ofBits_ideal]

/-- The kernel's exponential of a cell. -/
theorem exp_cell (R : Fin 128) (C : Fin 100000) : expAt X R C
    = Ideal.exp2 (Numbers.power (X (ix2 R C)) (Lanes.unit (F := Ideal) (Lanes.cipher counter) (ix2 R C))) := by
  have h : expAt X R C = Lanes.expo (F := Ideal) (Lanes.unit (Lanes.cipher counter)) X (ix2 R C) :=
    (Lanes.block_apply (F := Ideal) counter X (ix2 R C)).symm
  rw [h, expo_apply]
  generalize Lanes.unit (F := Ideal) (Lanes.cipher counter) (ix2 R C) = v
  generalize X (ix2 R C) = x
  rw [IdealRules.named_const.ideal_named_scalar Cert.KernelIdeal.κ "c_temp" (φ := .f32) 0x3E93BB63#32 (((1 / 5) * (Real.log 2)⁻¹ : ℝ) : EReal) rfl,
    IdealRules.named_const.ideal_named_scalar Cert.KernelIdeal.κ "inv_ln2" (φ := .f32) 0x3FB8AA3B#32 (((Real.log 2)⁻¹ : ℝ) : EReal) rfl,
    IdealRules.named_const.ideal_named_scalar Cert.KernelIdeal.κ "ln2" (φ := .f32) 0x3F317218#32 ((Real.log 2 : ℝ) : EReal) rfl,
    IdealRules.named_const.ideal_named_scalar Cert.KernelIdeal.κ "fifth" (φ := .f32) 0x3E4CCCCD#32 ((1 / 5 : ℝ) : EReal) rfl]
  unfold Numbers.power
  simp only [Ideal.subf_def, Ideal.mulf_def, Ideal.log_def, exp2_ideal, ofBits_ideal]

/-- The reference's score. -/
def scoreAt (R : Fin 128) (C : Fin 100000) : EReal := hostScores X (hostU (F := Ideal)) (ix2 R C)

/-- The kernel's exponential is that of the reference's score. -/
theorem exp_score (R : Fin 128) (C : Fin 100000) (hx : X (ix2 R C) ≠ (⊤ : EReal)) : expAt X R C = Ideal.exp (scoreAt X R C) := by
  obtain ⟨v, h0, h1, hk, hr⟩ := unit_cell (ix2 R C)
  unfold scoreAt
  rw [exp_cell, score_cell, hk, hr]
  exact Numbers.power_score _ hx v h0 h1

theorem scoreAt_ne_top (R : Fin 128) (C : Fin 100000) (hx : X (ix2 R C) ≠ (⊤ : EReal)) : scoreAt X R C ≠ ⊤ := by
  obtain ⟨v, h0, h1, -, hr⟩ := unit_cell (ix2 R C)
  unfold scoreAt
  rw [score_cell, hr]
  exact Numbers.score_ne_top _ hx v h0 h1

theorem scoreAt_ne_bot (R : Fin 128) (C : Fin 100000) (hx : X (ix2 R C) ≠ (⊥ : EReal)) : scoreAt X R C ≠ ⊥ := by
  obtain ⟨v, h0, h1, -, hr⟩ := unit_cell (ix2 R C)
  unfold scoreAt
  rw [score_cell, hr]
  exact Numbers.score_ne_bot _ hx v h0 h1

/-- The reduction along the rows, as the sums and the folds want it. -/
theorem along : S128x100000.Reduces [1] Cert.ReferenceIdeal.S128 := by decide

/-- The cell of a row at a coordinate along it. -/
theorem along_lift (R : Fin 128) (k : Fin 100000) : along.lift (ix1 R) k = ix2 R k := by
  funext b
  match b with
  | ⟨0, _⟩ => exact Fin.ext rfl
  | ⟨1, _⟩ => exact Fin.ext rfl

/-- The largest score of a row is the fold over it. -/
theorem max_fold (z : FVec Ideal S128x100000 .f32) (R : Fin 128) : (hostMax (F := Ideal) z (ix1 R) : EReal)
    = (Finset.univ : Finset (Fin 100000)).fold max (⊥ : EReal) (fun k => z (ix2 R k)) := by
  unfold hostMax
  refine (Host.reduce_eq_fold_single (α := Ideal .f32) (FloatOps.maximumf (F := Ideal)) z _ _ along _ (ix1 R)).trans ?_
  have hz : (z ∘ along.lift (ix1 R)) = fun k : Fin 100000 => z (ix2 R k) := funext fun k => congrArg z (along_lift R k)
  have hb : constant (F := Ideal) Cert.ReferenceIdeal.S_ .f32 0xFF800000#32 (Shape.Idx.first Cert.ReferenceIdeal.Facts₀.h_S_) = (⊥ : EReal) :=
    Numbers.word_bot
  rw [hb]
  exact congrArg (Finset.fold _ _ · _) hz

/-- The number that the reference takes off a row's scores is a real. -/
theorem row_max (z : FVec Ideal S128x100000 .f32) (R : Fin 128) (ht : ∀ k : Fin 100000, z (ix2 R k) ≠ (⊤ : EReal))
    (hb : ∃ k : Fin 100000, z (ix2 R k) ≠ (⊥ : EReal)) : ∃ M : ℝ, (hostMax (F := Ideal) z (ix1 R) : EReal) = M := by
  rw [max_fold]
  have hlt : (Finset.univ : Finset (Fin 100000)).fold max (⊥ : EReal) (fun k => z (ix2 R k)) < ⊤ :=
    (Finset.fold_max_lt _).2 ⟨bot_lt_top, fun k _ => lt_top_iff_ne_top.2 (ht k)⟩
  have hgt : ⊥ < (Finset.univ : Finset (Fin 100000)).fold max (⊥ : EReal) (fun k => z (ix2 R k)) := by
    obtain ⟨k, hk⟩ := hb
    exact (Finset.lt_fold_max _).2 (.inr ⟨k, Finset.mem_univ k, bot_lt_iff_ne_bot.2 hk⟩)
  exact ⟨_, (EReal.coe_toReal hlt.ne hgt.ne').symm⟩

/-- The reference's exponentials along a row: of the scores less one real. -/
theorem exps_row (z : FVec Ideal S128x100000 .f32) (R : Fin 128) (ht : ∀ k : Fin 100000, z (ix2 R k) ≠ (⊤ : EReal))
    (hb : ∃ k : Fin 100000, z (ix2 R k) ≠ (⊥ : EReal)) : ∃ M : ℝ, ∀ k : Fin 100000,
    (hostExps z (ix2 R k) : EReal) = Ideal.exp ((z (ix2 R k) : EReal) - (M : EReal)) := by
  obtain ⟨M, hM⟩ := row_max z R ht hb
  refine ⟨M, fun k => ?_⟩
  rw [hostExps_apply, hM]
  simp only [Ideal.hostUnary_exp_def, Ideal.subf_def, Ideal.maximumf_def, ofBits_ideal, Numbers.word_bot]
  rw [max_eq_right bot_le]

/-- The reference's quotient at a cell: the value there over the row's sum. -/
theorem normal_cell (e : FVec Ideal S128x100000 .f32) (R : Fin 128) (C : Fin 100000) : (hostNormal e (ix2 R C) : EReal)
    = Ideal.div (e (ix2 R C)) (((0 : ℝ) : EReal) + ∑ k : Fin 100000, (e (ix2 R k) : EReal)) := by
  have hs : (hostSum (F := Ideal) e (ix1 R) : EReal) = ((0 : ℝ) : EReal) + ∑ k : Fin 100000, (e (ix2 R k) : EReal) := by
    unfold hostSum
    rw [ValueIdx.hostReduceAdd_apply, Ideal.hostReduceAdd_single _ along]
    have hz : constant (F := Ideal) Cert.ReferenceIdeal.S_ .f32 0x00000000#32 (Shape.Idx.first Cert.ReferenceIdeal.Facts₀.h_S_) = ((0 : ℝ) : EReal) :=
      Numbers.word_zero
    rw [hz]
    refine congrArg (((0 : ℝ) : EReal) + ·) ?_
    exact Finset.sum_congr rfl fun k _ => congrArg e (along_lift R k)
  rw [hostNormal_apply, Ideal.hostDivf_def, hs]

/-- The equation at a cell. -/
theorem cell (hx : ∀ R C, X (ix2 R C) ≠ (⊤ : EReal)) (hb : ∀ R, ∃ C, X (ix2 R C) ≠ (⊥ : EReal)) (R : Fin 128) (C : Fin 100000) :
    (hostNormal (hostExps (hostScores X (hostU (F := Ideal)))) (ix2 R C) : EReal) = quotient X R C := by
  have ht : ∀ k, scoreAt X R k ≠ ⊤ := fun k => scoreAt_ne_top X R k (hx R k)
  have hb' : ∃ k, scoreAt X R k ≠ ⊥ := (hb R).imp fun k hk => scoreAt_ne_bot X R k hk
  obtain ⟨M, hM⟩ := exps_row (hostScores X (hostU (F := Ideal))) R ht hb'
  have h := Numbers.softmax (scoreAt X R) ht hb' M C
  refine (normal_cell _ R C).trans ?_
  refine (congrArg₂ Ideal.div (hM C) (congrArg (((0 : ℝ) : EReal) + ·) (Finset.sum_congr rfl fun k _ => hM k))).trans ?_
  refine h.trans ?_
  unfold quotient
  rw [exp_score X R C (hx R C), ← Numbers.word_one]
  refine congrArg (fun t : EReal => Ideal.exp (scoreAt X R C) * Ideal.div (Ideal.ofBits .f32 0x3F800000#32) t) ?_
  exact Finset.sum_congr rfl fun k _ => (exp_score X R k (hx R k)).symm

/-- The equation of the arrays. -/
theorem result_eq (hx : ∀ R C, X (ix2 R C) ≠ (⊤ : EReal)) (hb : ∀ R, ∃ C, X (ix2 R C) ≠ (⊥ : EReal)) :
    hostNormal (hostExps (hostScores X (hostU (F := Ideal)))) = result X := by
  funext p
  obtain ⟨R, C, rfl⟩ : ∃ (R : Fin 128) (C : Fin 100000), p = ix2 R C := ⟨p 0, p 1, eq_ix2 p⟩
  have hr : result X (ix2 R C) = quotient X R C := by unfold result; rfl
  rw [hr]
  exact cell X hx hb R C

end Cert.Agree

end
-- ==== Proof.Bounded.lean ====
/-
  What the precondition says of the logits: none is `⊤`, and every row has one above `⊥`.
-/
module

public import proofs.«01_k».proof.Pre_bounded_rows
public import proofs.«01_k».proof.Proof.Softmax
public import Idealize.ShloMosaic.Lib.ReduceAll

@[expose] public section

noncomputable section

namespace Cert.Agree

open Idealize.ShloMosaic Cert.Pre_bounded_rows

/-- A comparison with a constant, in one cell. -/
theorem compare_apply {F : FTy → Type} [FloatOps F] (p : CmpFPredicate) (h : S_.BroadcastsInDim S128x100000 (![] : Fin 0 → Fin S128x100000.rank))
    (x : FVec F S128x100000 .f32) (w : BitVec 32) (j : S128x100000.Idx) :
    cmpf p x (broadcastInDim S128x100000 ![] h (constant S_ .f32 w)) j = FloatOps.cmpf p (x j) (FloatOps.ofBits .f32 w) := rfl

/-- A comparison at the extended reals. -/
theorem compare_ideal (p : CmpFPredicate) (x : Ideal .f32) (w : BitVec 32) :
    FloatOps.cmpf (F := Ideal) p x (FloatOps.ofBits .f32 w) = Ideal.cmp p x (Ideal.ofBits .f32 w) := rfl

theorem below_of_one (x : EReal) (h : Ideal.cmp .olt x ⊤ = 1#1) : x ≠ ⊤ := by
  rintro rfl
  simp [Ideal.cmp] at h

theorem above_of_one (x : EReal) (h : Ideal.cmp .ogt x ⊥ = 1#1) : x ≠ ⊥ := by
  rintro rfl
  simp [Ideal.cmp] at h

/-- A union of bits that is set has a bit that is set. -/
theorem some_of_fold {n : ℕ} (f : Fin n → BitVec 1) (h : (Finset.univ : Finset (Fin n)).fold IntOp.ori 0#1 f = 1#1) : ∃ k, f k = 1#1 := by
  have hor : ∀ y z : BitVec 1, IntOp.ori y z = 1#1 ↔ y = 1#1 ∨ z = 1#1 := by decide
  rcases (Finset.fold_op_rel_iff_or (r := fun _ y : BitVec 1 => y = 1#1) (c := 0#1) (fun {_ y z} => hor y z)).1 h with h | ⟨k, -, h⟩
  · exact absurd h (by decide)
  · exact ⟨k, h⟩

variable [Facts] (X : FVec Ideal S128x100000 .f32)

/-- The precondition, taken apart. -/
theorem bounded (h : fn (F := Ideal) X = fun _ => 1#1) :
    (∀ (R : Fin 128) (C : Fin 100000), X (ix2 R C) ≠ (⊤ : EReal)) ∧ ∀ R : Fin 128, ∃ C : Fin 100000, X (ix2 R C) ≠ (⊥ : EReal) := by
  have hs : Subsingleton S_.Idx := ⟨fun a b => funext fun i => i.elim0⟩
  obtain ⟨ha, hb⟩ := IntOp.andi_eq_one.1 (congrFun h (fun a => a.elim0))
  refine ⟨fun R C => ?_, fun R => ?_⟩
  · have hc := Host.reduce_andi_all _ _ _ _ _ ha (ix2 R C)
    rw [compare_apply, compare_ideal, Numbers.word_top] at hc
    exact below_of_one _ hc
  · have hr := Host.reduce_andi_all _ _ _ _ _ hb (ix1 R)
    beta_reduce at hr
    rw [Host.reduce_eq_fold_single IntOp.ori _ _ _ along] at hr
    obtain ⟨k, hk⟩ := some_of_fold _ hr
    rw [Function.comp_apply, compare_apply, compare_ideal, Numbers.word_bot] at hk
    refine ⟨k, above_of_one _ ?_⟩
    rw [← along_lift R k]
    exact hk

end Cert.Agree

end
-- ==== Proof.lean ====
/- The certificate: the programs' frames, the kernel's idealization, and the value claim, assembled from the modules below. -/
module

public import proofs.«01_k».proof.Defs
public import proofs.«01_k».proof.Proof.Gen.Pre_bounded_rows
public import proofs.«01_k».proof.Proof.KernelFrame
public import proofs.«01_k».proof.Proof.Result
public import proofs.«01_k».proof.Proof.RefRead
public import proofs.«01_k».proof.Proof.Bounded
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m ρ _ => Cert.Kernel.Words.frame m ρ

/-- The idealized kernel's frame. -/
theorem frame_ideal : Cert.quiescent_KernelIdeal := fun m ρ _ => Cert.KernelIdeal.Val.run_counters m ρ

/-- The reference's frame. -/
theorem frame_reference : Cert.quiescent_ReferenceIdeal := fun m ρ _ =>
  (θ_run _ _ _).mono (fun r h => ⟨fun c => (h c _).trans (Cert.RefRun.arg_read _), sem_eq_zero_of_no_sems (by decide) r.2⟩)
    (Cert.RefRun.run (F := Ideal) m ρ)

/-- The four named constants. -/
theorem preserves : Cert.preserves_Kernel_KernelIdeal :=
  ⟨IdealRules.named_const.statement Cert.KernelIdeal.κ "inv_ln2" .f32 0x3FB8AA3B#32 (((Real.log 2)⁻¹ : ℝ) : EReal) rfl,
    IdealRules.named_const.statement Cert.KernelIdeal.κ "ln2" .f32 0x3F317218#32 ((Real.log 2 : ℝ) : EReal) rfl,
    IdealRules.named_const.statement Cert.KernelIdeal.κ "c_temp" .f32 0x3E93BB63#32 (((1 / 5) * (Real.log 2)⁻¹ : ℝ) : EReal) rfl,
    IdealRules.named_const.statement Cert.KernelIdeal.κ "fifth" .f32 0x3E4CCCCD#32 ((1 / 5 : ℝ) : EReal) rfl⟩

/-- Where the precondition holds, the kernel's result is the reference's, cell by cell. -/
theorem algebraic : Cert.algebraic_KernelIdeal_ReferenceIdeal_pre_bounded_rows := by
  intro m g m' g' hpre hargs
  refine ⟨fun c => Cert.KernelIdeal.Val.result (m ((c.tc : Thread Cert.KernelIdeal.nD Cert.KernelIdeal.τ).loc Cert.KernelIdeal.main_arg0)),
    Cert.KernelIdeal.Val.run m g, (θ_run _ _ _).mono (fun r h c => ⟨?_, (h c _).trans (Cert.RefRun.arg_read _)⟩) (Cert.RefRun.run (F := Ideal) m' g')⟩
  obtain ⟨hx, hb⟩ := Cert.Agree.bounded _ (hpre c)
  refine (h c _).trans ((Cert.RefRun.out_read _).trans ?_)
  refine (congrArg (fun X => Cert.RefRun.hostNormal (Cert.RefRun.hostExps (Cert.RefRun.hostScores X (Cert.RefRun.hostU (F := Ideal))))) (hargs c)).trans ?_
  exact Cert.Agree.result_eq _ hx hb

/-- All of it. -/
theorem claim : Cert.Claim :=
  ⟨Cert.Kernel.Gen.facts, Cert.KernelIdeal.Gen.facts, Cert.ReferenceIdeal.Gen.facts, Cert.Pre_bounded_rows.Gen.facts, frame_kernel,
    frame_ideal, fun m ρ _ => frame_ideal m ρ trivial, frame_reference, fun m ρ _ => frame_reference m ρ trivial, preserves, algebraic⟩

end Cert.Proof

end
